-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sane [hPre_sane : Cert.Pre_sane.Facts] (m : (ℓ : Loc Cert.KernelIdeal.nD Cert.KernelIdeal.τ Cert.KernelIdeal.sig) → Buf (Elt Ideal) ℓ) : Prop :=
  ∀ c : Dev Cert.KernelIdeal.nD,
    (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_sane.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sane [hPre_sane : Cert.Pre_sane.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_sane.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_sane [hKernelIdeal : Cert.KernelIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sane m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_sane [hReferenceIdeal : Cert.ReferenceIdeal.Facts] [hPre_sane : Cert.Pre_sane.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sane m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "score_scale_log2e" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "neg_inf" .f32 0xFF61B1E6#32 ⊥

def algebraic_KernelIdeal_ReferenceIdeal_pre_sane [hKernelIdeal : Cert.KernelIdeal.Facts] [hReferenceIdeal : Cert.ReferenceIdeal.Facts] [hPre_sane : Cert.Pre_sane.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sane m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_sane : Cert.Pre_sane.Facts),
    quiescent_Kernel (hKernel := hKernel)
    ∧ quiescent_KernelIdeal (hKernelIdeal := hKernelIdeal)
    ∧ quiescent_KernelIdeal_pre_sane (hKernelIdeal := hKernelIdeal) (hPre_sane := hPre_sane)
    ∧ quiescent_ReferenceIdeal (hReferenceIdeal := hReferenceIdeal)
    ∧ quiescent_ReferenceIdeal_pre_sane (hReferenceIdeal := hReferenceIdeal) (hPre_sane := hPre_sane)
    ∧ preserves_Kernel_KernelIdeal
    ∧ algebraic_KernelIdeal_ReferenceIdeal_pre_sane (hKernelIdeal := hKernelIdeal) (hReferenceIdeal := hReferenceIdeal) (hPre_sane := hPre_sane)
-- ==== Pre_sane.lean ====
abbrev S24x2048x8x128 : Shape := ⟨4, ![24, 2048, 8, 128]⟩
abbrev S24x4x8 : Shape := ⟨3, ![24, 4, 8]⟩
abbrev S24x2048x8 : Shape := ⟨3, ![24, 2048, 8]⟩
abbrev S8x384x128 : Shape := ⟨3, ![8, 384, 128]⟩
abbrev S24x8x384x128 : Shape := ⟨4, ![24, 8, 384, 128]⟩
abbrev S24x8x384 : Shape := ⟨3, ![24, 8, 384]⟩
abbrev S_ : Shape := ⟨0, ![]⟩

class Facts : Prop where
  bcast_S_S24x8x384 : S_.BroadcastsInDim S24x8x384 (![] : Fin 0 → Fin S24x8x384.rank)
  bcast_S24x8x384_S24x8x384x128_0_1_2 : S24x8x384.BroadcastsInDim S24x8x384x128 (![0, 1, 2] : Fin 3 → Fin S24x8x384x128.rank)
  bcast_S_S24x4x8 : S_.BroadcastsInDim S24x4x8 (![] : Fin 0 → Fin S24x4x8.rank)
  bcast_S_S24x2048x8 : S_.BroadcastsInDim S24x2048x8 (![] : Fin 0 → Fin S24x2048x8.rank)
  bcast_S_S24x8x384x128 : S_.BroadcastsInDim S24x8x384x128 (![] : Fin 0 → Fin S24x8x384x128.rank)

variable [Facts]

def fn_part1 {F : FTy → Type} [FloatOps F] (main_arg6 : FVec F S24x8x384x128 .f32) (main_arg7 : FVec F S24x8x384 .f32) (main_v2 : IVec S24x8x384x128 1) (main_v7 : IVec S24x4x8 1) (main_v12 : IVec S24x4x8 1) (main_v14 : IVec S24x2048x8 1) (main_v16 : IVec S24x2048x8 1) : IVec S24x4x8 1 × IVec S24x4x8 1 × IVec S24x2048x8 1 × IVec S24x8x384 1 × IVec S24x8x384x128 1 :=
  let main_v17 : IVec S24x2048x8 1 := andi main_v14 main_v16
  let main_cst_5 : FVec F S_ .f32 := constant S_ .f32 0x00000000#32
  let main_v18 : FVec F S24x8x384 .f32 := broadcastInDim S24x8x384 ![] bcast_S_S24x8x384 main_cst_5
  let main_v19 : IVec S24x8x384 1 := cmpf .oge main_arg7 main_v18
  let main_cst_6 : FVec F S_ .f32 := constant S_ .f32 0x7F800000#32
  let main_v20 : FVec F S24x8x384 .f32 := broadcastInDim S24x8x384 ![] bcast_S_S24x8x384 main_cst_6
  let main_v21 : IVec S24x8x384 1 := cmpf .olt main_arg7 main_v20
  let main_v22 : IVec S24x8x384 1 := andi main_v19 main_v21
  let main_cst_7 : FVec F S_ .f32 := constant S_ .f32 0x00000000#32
  let main_v23 : FVec F S24x8x384x128 .f32 := broadcastInDim S24x8x384x128 ![] bcast_S_S24x8x384x128 main_cst_7
  let main_v24 : IVec S24x8x384x128 1 := cmpf .oeq main_arg6 main_v23
  let main_v25 : IVec S24x8x384x128 1 := ori main_v2 main_v24
  (main_v7, main_v12, main_v17, main_v22, main_v25)

def fn {F : FTy → Type} [FloatOps F] (main_arg0 : FVec F S24x2048x8x128 .fp8e4m3) (main_arg1 : FVec F S24x4x8 .f32) (main_arg2 : IVec S24x2048x8 32) (main_arg3 : FVec F S8x384x128 .bf16) (main_arg4 : FVec F S24x2048x8x128 .fp8e4m3) (main_arg5 : FVec F S24x4x8 .f32) (main_arg6 : FVec F S24x8x384x128 .f32) (main_arg7 : FVec F S24x8x384 .f32) : IVec S24x4x8 1 × IVec S24x4x8 1 × IVec S24x2048x8 1 × IVec S24x8x384 1 × IVec S24x8x384x128 1 :=
  let main_cst : FVec F S_ .f32 := constant S_ .f32 0x00000000#32
  let main_v0 : FVec F S24x8x384 .f32 := broadcastInDim S24x8x384 ![] bcast_S_S24x8x384 main_cst
  let main_v1 : IVec S24x8x384 1 := cmpf .ogt main_arg7 main_v0
  let main_v2 : IVec S24x8x384x128 1 := broadcastInDim S24x8x384x128 ![0, 1, 2] bcast_S24x8x384_S24x8x384x128_0_1_2 main_v1
  let main_cst_0 : FVec F S_ .f32 := constant S_ .f32 0x00000000#32
  let main_v3 : FVec F S24x4x8 .f32 := broadcastInDim S24x4x8 ![] bcast_S_S24x4x8 main_cst_0
  let main_v4 : IVec S24x4x8 1 := cmpf .ogt main_arg1 main_v3
  let main_cst_1 : FVec F S_ .f32 := constant S_ .f32 0x7F800000#32
  let main_v5 : FVec F S24x4x8 .f32 := broadcastInDim S24x4x8 ![] bcast_S_S24x4x8 main_cst_1
  let main_v6 : IVec S24x4x8 1 := cmpf .olt main_arg1 main_v5
  let main_v7 : IVec S24x4x8 1 := andi main_v4 main_v6
  let main_cst_2 : FVec F S_ .f32 := constant S_ .f32 0x00000000#32
  let main_v8 : FVec F S24x4x8 .f32 := broadcastInDim S24x4x8 ![] bcast_S_S24x4x8 main_cst_2
  let main_v9 : IVec S24x4x8 1 := cmpf .oge main_arg5 main_v8
  let main_cst_3 : FVec F S_ .f32 := constant S_ .f32 0x7F800000#32
  let main_v10 : FVec F S24x4x8 .f32 := broadcastInDim S24x4x8 ![] bcast_S_S24x4x8 main_cst_3
  let main_v11 : IVec S24x4x8 1 := cmpf .olt main_arg5 main_v10
  let main_v12 : IVec S24x4x8 1 := andi main_v9 main_v11
  let main_c : IVec S_ 32 := constantI S_ 32 0#32
  let main_v13 : IVec S24x2048x8 32 := broadcastInDim S24x2048x8 ![] bcast_S_S24x2048x8 main_c
  let main_v14 : IVec S24x2048x8 1 := cmpi .sge main_arg2 main_v13
  let main_c_4 : IVec S_ 32 := constantI S_ 32 384#32
  let main_v15 : IVec S24x2048x8 32 := broadcastInDim S24x2048x8 ![] bcast_S_S24x2048x8 main_c_4
  let main_v16 : IVec S24x2048x8 1 := cmpi .slt main_arg2 main_v15
  fn_part1 (F := F) main_arg6 main_arg7 main_v2 main_v7 main_v12 main_v14 main_v16
-- ==== Kernel.lean ====
abbrev S24x2048x8x128 : Shape := ⟨4, ![24, 2048, 8, 128]⟩
abbrev S24x4x8 : Shape := ⟨3, ![24, 4, 8]⟩
abbrev S24x2048x8 : Shape := ⟨3, ![24, 2048, 8]⟩
abbrev S8x384x128 : Shape := ⟨3, ![8, 384, 128]⟩
abbrev S24x8x384x128 : Shape := ⟨4, ![24, 8, 384, 128]⟩
abbrev S24x8x384 : Shape := ⟨3, ![24, 8, 384]⟩
abbrev S24x8x2048x128 : Shape := ⟨4, ![24, 8, 2048, 128]⟩
abbrev S24x8x2048 : Shape := ⟨3, ![24, 8, 2048]⟩
abbrev S24x8x1x2048 : Shape := ⟨4, ![24, 8, 1, 2048]⟩
abbrev S192x2048x1 : Shape := ⟨3, ![192, 2048, 1]⟩
abbrev S24x32 : Shape := ⟨2, ![24, 32]⟩
abbrev S24x8x1x384 : Shape := ⟨4, ![24, 8, 1, 384]⟩
abbrev S24x2048x1024 : Shape := ⟨3, ![24, 2048, 1024]⟩
abbrev S1x1x2048x128 : Shape := ⟨4, ![1, 1, 2048, 128]⟩
abbrev S1x2048x1 : Shape := ⟨3, ![1, 2048, 1]⟩
abbrev S1x1x1x2048 : Shape := ⟨4, ![1, 1, 1, 2048]⟩
abbrev S1x384x128 : Shape := ⟨3, ![1, 384, 128]⟩
abbrev S1x1x384x128 : Shape := ⟨4, ![1, 1, 384, 128]⟩
abbrev S1x1x1x384 : Shape := ⟨4, ![1, 1, 1, 384]⟩
abbrev S1x2048x128 : Shape := ⟨3, ![1, 2048, 128]⟩
abbrev S128x384 : Shape := ⟨2, ![128, 384]⟩
abbrev S384x128 : Shape := ⟨2, ![384, 128]⟩
abbrev S128x128 : Shape := ⟨2, ![128, 128]⟩
abbrev S256x128 : Shape := ⟨2, ![256, 128]⟩
abbrev S256x256 : Shape := ⟨2, ![256, 256]⟩
abbrev S16x256 : Shape := ⟨2, ![16, 256]⟩
abbrev S1x384 : Shape := ⟨2, ![1, 384]⟩
abbrev S1x1 : Shape := ⟨2, ![1, 1]⟩
abbrev S1x256x1 : Shape := ⟨3, ![1, 256, 1]⟩
abbrev S256x1 : Shape := ⟨2, ![256, 1]⟩
abbrev S1x1x1x256 : Shape := ⟨4, ![1, 1, 1, 256]⟩
abbrev S1x256 : Shape := ⟨2, ![1, 256]⟩
abbrev S1x1x256x128 : Shape := ⟨4, ![1, 1, 256, 128]⟩
abbrev S384x256 : Shape := ⟨2, ![384, 256]⟩
abbrev S256 : Shape := ⟨1, ![256]⟩
abbrev S128x256 : Shape := ⟨2, ![128, 256]⟩
abbrev S1x256x128 : Shape := ⟨3, ![1, 256, 128]⟩
abbrev S272x256 : Shape := ⟨2, ![272, 256]⟩
abbrev S1x128 : Shape := ⟨2, ![1, 128]⟩

abbrev nBuf : Space → Nat
  | .hbm => 19
  | .vmem => 21
  | .smem => 2
  | _ => 0

abbrev bufTy : (tb : Table) → Fin (tcTables nBuf tb) → BufTy
  | .hbm, ⟨0, _⟩ => ⟨S24x2048x8x128, .fp8e4m3⟩
  | .hbm, ⟨1, _⟩ => ⟨S24x4x8, .f32⟩
  | .hbm, ⟨2, _⟩ => ⟨S24x2048x8, .i32⟩
  | .hbm, ⟨3, _⟩ => ⟨S8x384x128, .bf16⟩
  | .hbm, ⟨4, _⟩ => ⟨S24x2048x8x128, .fp8e4m3⟩
  | .hbm, ⟨5, _⟩ => ⟨S24x4x8, .f32⟩
  | .hbm, ⟨6, _⟩ => ⟨S24x8x384x128, .f32⟩
  | .hbm, ⟨7, _⟩ => ⟨S24x8x384, .f32⟩
  | .hbm, ⟨8, _⟩ => ⟨S24x8x2048x128, .fp8e4m3⟩
  | .hbm, ⟨9, _⟩ => ⟨S24x8x2048x128, .fp8e4m3⟩
  | .hbm, ⟨10, _⟩ => ⟨S24x8x2048, .i32⟩
  | .hbm, ⟨11, _⟩ => ⟨S24x8x1x2048, .i32⟩
  | .hbm, ⟨12, _⟩ => ⟨S192x2048x1, .i32⟩
  | .hbm, ⟨13, _⟩ => ⟨S24x32, .f32⟩
  | .hbm, ⟨14, _⟩ => ⟨S24x32, .f32⟩
  | .hbm, ⟨15, _⟩ => ⟨S24x8x1x384, .f32⟩
  | .hbm, ⟨16, _⟩ => ⟨S24x2048x1024, .bf16⟩
  | .hbm, ⟨17, _⟩ => ⟨S24x8x384x128, .f32⟩
  | .hbm, ⟨18, _⟩ => ⟨S24x8x1x384, .f32⟩
  | .local _ .vmem, ⟨0, _⟩ => ⟨S1x1x2048x128, .fp8e4m3⟩
  | .local _ .vmem, ⟨1, _⟩ => ⟨S1x1x2048x128, .fp8e4m3⟩
  | .local _ .vmem, ⟨2, _⟩ => ⟨S1x2048x1, .i32⟩
  | .local _ .vmem, ⟨3, _⟩ => ⟨S1x2048x1, .i32⟩
  | .local _ .vmem, ⟨4, _⟩ => ⟨S1x1x1x2048, .i32⟩
  | .local _ .vmem, ⟨5, _⟩ => ⟨S1x1x1x2048, .i32⟩
  | .local _ .vmem, ⟨6, _⟩ => ⟨S1x384x128, .bf16⟩
  | .local _ .vmem, ⟨7, _⟩ => ⟨S1x384x128, .bf16⟩
  | .local _ .vmem, ⟨8, _⟩ => ⟨S1x1x2048x128, .fp8e4m3⟩
  | .local _ .vmem, ⟨9, _⟩ => ⟨S1x1x2048x128, .fp8e4m3⟩
  | .local _ .vmem, ⟨10, _⟩ => ⟨S1x1x384x128, .f32⟩
  | .local _ .vmem, ⟨11, _⟩ => ⟨S1x1x384x128, .f32⟩
  | .local _ .vmem, ⟨12, _⟩ => ⟨S1x1x1x384, .f32⟩
  | .local _ .vmem, ⟨13, _⟩ => ⟨S1x1x1x384, .f32⟩
  | .local _ .vmem, ⟨14, _⟩ => ⟨S1x2048x128, .bf16⟩
  | .local _ .vmem, ⟨15, _⟩ => ⟨S1x2048x128, .bf16⟩
  | .local _ .vmem, ⟨16, _⟩ => ⟨S1x1x384x128, .f32⟩
  | .local _ .vmem, ⟨17, _⟩ => ⟨S1x1x384x128, .f32⟩
  | .local _ .vmem, ⟨18, _⟩ => ⟨S1x1x1x384, .f32⟩
  | .local _ .vmem, ⟨19, _⟩ => ⟨S1x1x1x384, .f32⟩
  | .local _ .vmem, ⟨20, _⟩ => ⟨S128x384, .f32⟩
  | .local _ .smem, ⟨0, _⟩ => ⟨S24x32, .f32⟩
  | .local _ .smem, ⟨1, _⟩ => ⟨S24x32, .f32⟩
  | _, _ => ⟨S24x2048x8x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![24, 8], ![false, false]⟩

def k0_off1 (i : grid0.Coords) (c0_i32 : BitVec 32) : Fin 2 → Nat :=
  let arg0 : BitVec 32 := BitVec.ofNat 32 (i 0).val
  let v29 : Index := Scalar.indexCast arg0
  let arg1 : BitVec 32 := BitVec.ofNat 32 (i 1).val
  let v28 : BitVec 32 := Scalar.addi c0_i32 arg1
  let v30 : Index := Scalar.indexCast v28
  ![v29.toNat, v30.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S24x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S24x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x384x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x2048x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x384x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x384x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "log2e" => some (((Real.log 2)⁻¹ : ℝ) : EReal)
  | "neg_inf" => some ⊥
  | "score_scale_log2e" => some (((Real.sqrt 128)⁻¹ * (Real.log 2)⁻¹ : ℝ) : EReal)
  | _ => none
-- ==== ReferenceIdeal.lean ====
abbrev S24x2048x8x128 : Shape := ⟨4, ![24, 2048, 8, 128]⟩
abbrev S24x4x8 : Shape := ⟨3, ![24, 4, 8]⟩
abbrev S24x2048x8 : Shape := ⟨3, ![24, 2048, 8]⟩
abbrev S8x384x128 : Shape := ⟨3, ![8, 384, 128]⟩
abbrev S24x8x384x128 : Shape := ⟨4, ![24, 8, 384, 128]⟩
abbrev S24x8x384 : Shape := ⟨3, ![24, 8, 384]⟩
abbrev S24x4x512x8x128 : Shape := ⟨5, ![24, 4, 512, 8, 128]⟩
abbrev S24x4x512x8 : Shape := ⟨4, ![24, 4, 512, 8]⟩
abbrev S24x4x512x8x1 : Shape := ⟨5, ![24, 4, 512, 8, 1]⟩
abbrev S1x1x1x1x384 : Shape := ⟨5, ![1, 1, 1, 1, 384]⟩
abbrev S24x4x512x8x384 : Shape := ⟨5, ![24, 4, 512, 8, 384]⟩
abbrev S24x4x8x384x128 : Shape := ⟨5, ![24, 4, 8, 384, 128]⟩
abbrev S24x4x8x1x1 : Shape := ⟨5, ![24, 4, 8, 1, 1]⟩
abbrev S_ : Shape := ⟨0, ![]⟩
abbrev S24x4x8x384 : Shape := ⟨4, ![24, 4, 8, 384]⟩
abbrev S24x1x8x384x128 : Shape := ⟨5, ![24, 1, 8, 384, 128]⟩
abbrev S24x1x8x384 : Shape := ⟨4, ![24, 1, 8, 384]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x384x24x4x512 : Shape := ⟨5, ![8, 384, 24, 4, 512]⟩
abbrev S24x4x8x512x384 : Shape := ⟨5, ![24, 4, 8, 512, 384]⟩
abbrev S24x4x8x512 : Shape := ⟨4, ![24, 4, 8, 512]⟩
abbrev S24x4x8x1x512 : Shape := ⟨5, ![24, 4, 8, 1, 512]⟩
abbrev S24x4x8x512x512 : Shape := ⟨5, ![24, 4, 8, 512, 512]⟩
abbrev S24x4x8x512x512x1 : Shape := ⟨6, ![24, 4, 8, 512, 512, 1]⟩
abbrev S1 : Shape := ⟨1, ![1]⟩
abbrev S1x1x1x1x1x1 : Shape := ⟨6, ![1, 1, 1, 1, 1, 1]⟩
abbrev S24x4x8x1x384 : Shape := ⟨5, ![24, 4, 8, 1, 384]⟩
abbrev S24x4x8x512x1 : Shape := ⟨5, ![24, 4, 8, 512, 1]⟩
abbrev S24x4x8x128x512 : Shape := ⟨5, ![24, 4, 8, 128, 512]⟩
abbrev S24x4x1x8x1 : Shape := ⟨5, ![24, 4, 1, 8, 1]⟩
abbrev S24x2048x1024 : Shape := ⟨3, ![24, 2048, 1024]⟩
abbrev S24x8x1x384 : Shape := ⟨4, ![24, 8, 1, 384]⟩

abbrev nBuf : Space → Nat
  | .hbm => 169
  | .vmem => 4
  | .smem => 0
  | _ => 0

abbrev hbmTy0_0 (i : Nat) : BufTy := match i % 128 with
  | 0 => ⟨S24x2048x8x128, .fp8e4m3⟩
  | 1 => ⟨S24x4x8, .f32⟩
  | 2 => ⟨S24x2048x8, .i32⟩
  | 3 => ⟨S8x384x128, .bf16⟩
  | 4 => ⟨S24x2048x8x128, .fp8e4m3⟩
  | 5 => ⟨S24x4x8, .f32⟩
  | 6 => ⟨S24x8x384x128, .f32⟩
  | 7 => ⟨S24x8x384, .f32⟩
  | 8 => ⟨S24x2048x8x128, .bf16⟩
  | 9 => ⟨S24x2048x8x128, .bf16⟩
  | 10 => ⟨S24x4x512x8x128, .bf16⟩
  | 11 => ⟨S24x4x512x8x128, .bf16⟩
  | 12 => ⟨S24x4x512x8, .i32⟩
  | 13 => ⟨S24x4x512x8x1, .i32⟩
  | 14 => ⟨S1x1x1x1x384, .i32⟩
  | 15 => ⟨S24x4x512x8x384, .i32⟩
  | 16 => ⟨S24x4x512x8x384, .i32⟩
  | 17 => ⟨S24x4x512x8x384, .i1⟩
  | 18 => ⟨S24x4x512x8x384, .bf16⟩
  | 19 => ⟨S24x4x8x384x128, .f32⟩
  | 20 => ⟨S24x4x8x1x1, .f32⟩
  | 21 => ⟨S24x4x8x384x128, .f32⟩
  | 22 => ⟨S24x4x8x384x128, .f32⟩
  | 23 => ⟨S24x4x512x8x384, .f32⟩
  | 24 => ⟨S_, .f32⟩
  | 25 => ⟨S24x4x8x384, .f32⟩
  | 26 => ⟨S24x1x8x384x128, .f32⟩
  | 27 => ⟨S24x8x384x128, .f32⟩
  | 28 => ⟨S24x8x384x128, .f32⟩
  | 29 => ⟨S24x1x8x384, .f32⟩
  | 30 => ⟨S24x8x384, .f32⟩
  | 31 => ⟨S24x8x384, .f32⟩
  | 32 => ⟨S24x1x8x384x128, .f32⟩
  | 33 => ⟨S24x8x384x128, .f32⟩
  | 34 => ⟨S24x8x384x128, .f32⟩
  | 35 => ⟨S24x1x8x384, .f32⟩
  | 36 => ⟨S24x8x384, .f32⟩
  | 37 => ⟨S24x8x384, .f32⟩
  | 38 => ⟨S24x1x8x384x128, .f32⟩
  | 39 => ⟨S24x8x384x128, .f32⟩
  | 40 => ⟨S24x8x384x128, .f32⟩
  | 41 => ⟨S24x1x8x384, .f32⟩
  | 42 => ⟨S24x8x384, .f32⟩
  | 43 => ⟨S24x8x384, .f32⟩
  | 44 => ⟨S24x1x8x384x128, .f32⟩
  | 45 => ⟨S24x8x384x128, .f32⟩
  | 46 => ⟨S24x8x384x128, .f32⟩
  | 47 => ⟨S24x1x8x384, .f32⟩
  | 48 => ⟨S24x8x384, .f32⟩
  | 49 => ⟨S24x8x384, .f32⟩
  | 50 => ⟨S24x1x8x384x128, .f32⟩
  | 51 => ⟨S24x1x8x384x128, .f32⟩
  | 52 => ⟨S24x1x8x384x128, .f32⟩
  | 53 => ⟨S24x1x8x384x128, .f32⟩
  | 54 => ⟨S24x4x8x384x128, .f32⟩
  | 55 => ⟨S24x1x8x384, .f32⟩
  | 56 => ⟨S24x1x8x384, .f32⟩
  | 57 => ⟨S24x1x8x384, .f32⟩
  | 58 => ⟨S24x1x8x384, .f32⟩
  | 59 => ⟨S24x4x8x384, .f32⟩
  | 60 => ⟨S512, .i32⟩
  | 61 => ⟨S512x1, .i32⟩
  | 62 => ⟨S512, .i32⟩
  | 63 => ⟨S1x512, .i32⟩
  | 64 => ⟨S512x512, .i32⟩
  | 65 => ⟨S512x512, .i32⟩
  | 66 => ⟨S512x512, .i1⟩
  | 67 => ⟨S8x384x24x4x512, .f32⟩
  | 68 => ⟨S24x4x8x512x384, .f32⟩
  | 69 => ⟨S_, .f32⟩
  | 70 => ⟨S_, .f32⟩
  | 71 => ⟨S24x4x8, .f32⟩
  | 72 => ⟨S24x4x8, .f32⟩
  | 73 => ⟨S24x4x8x1x1, .f32⟩
  | 74 => ⟨S24x4x8x512x384, .f32⟩
  | 75 => ⟨S24x4x8x512x384, .f32⟩
  | 76 => ⟨S24x4x8x512, .i32⟩
  | 77 => ⟨S24x4x8x1x512, .i32⟩
  | 78 => ⟨S24x4x8x512x512, .i32⟩
  | 79 => ⟨S_, .i32⟩
  | 80 => ⟨S24x4x8x512x512, .i32⟩
  | 81 => ⟨S24x4x8x512x512, .i1⟩
  | 82 => ⟨S_, .i32⟩
  | 83 => ⟨S24x4x8x512x512, .i32⟩
  | 84 => ⟨S24x4x8x512x512, .i32⟩
  | 85 => ⟨S24x4x8x512x512, .i32⟩
  | 86 => ⟨S24x4x8x512x512x1, .i32⟩
  | 87 => ⟨S1, .i32⟩
  | 88 => ⟨S_, .i32⟩
  | 89 => ⟨S24x4x8x512x512x1, .i32⟩
  | 90 => ⟨S24x4x8x512x512x1, .i1⟩
  | 91 => ⟨S1x1x1x1x1x1, .i32⟩
  | 92 => ⟨S24x4x8x512x512x1, .i32⟩
  | 93 => ⟨S24x4x8x512x512x1, .i1⟩
  | 94 => ⟨S24x4x8x512x512x1, .i1⟩
  | 95 => ⟨S_, .i1⟩
  | 96 => ⟨S24x4x8x512x512, .i1⟩
  | 97 => ⟨S24x4x8x512x512, .f32⟩
  | 98 => ⟨S_, .f32⟩
  | 99 => ⟨S24x4x8x512x512, .f32⟩
  | 100 => ⟨S24x4x8x512x512, .f32⟩
  | 101 => ⟨S_, .f32⟩
  | 102 => ⟨S24x4x8x384, .f32⟩
  | 103 => ⟨S24x4x8x384, .i1⟩
  | 104 => ⟨S24x4x8x1x384, .i1⟩
  | 105 => ⟨S_, .f32⟩
  | 106 => ⟨S_, .f32⟩
  | 107 => ⟨S24x4x8x512x512, .i1⟩
  | 108 => ⟨S24x4x8x512x512, .f32⟩
  | 109 => ⟨S24x4x8x512x512, .f32⟩
  | 110 => ⟨S_, .f32⟩
  | 111 => ⟨S24x4x8x512, .f32⟩
  | 112 => ⟨S24x4x8x512x1, .f32⟩
  | 113 => ⟨S_, .f32⟩
  | 114 => ⟨S_, .f32⟩
  | 115 => ⟨S24x4x8x512x384, .i1⟩
  | 116 => ⟨S24x4x8x512x384, .f32⟩
  | 117 => ⟨S24x4x8x512x384, .f32⟩
  | 118 => ⟨S_, .f32⟩
  | 119 => ⟨S24x4x8x512, .f32⟩
  | 120 => ⟨S24x4x8x512x1, .f32⟩
  | 121 => ⟨S24x4x8x512x1, .f32⟩
  | 122 => ⟨S24x4x8x512x512, .f32⟩
  | 123 => ⟨S24x4x8x512x512, .f32⟩
  | 124 => ⟨S24x4x8x512x512, .f32⟩
  | 125 => ⟨S_, .f32⟩
  | 126 => ⟨S_, .f32⟩
  | 127 => ⟨S24x4x8x512x512, .i1⟩
  | _ => ⟨S24x2048x8x128, .fp8e4m3⟩

abbrev hbmTy0_1 (i : Nat) : BufTy := match i % 128 with
  | 0 => ⟨S24x4x8x512x512, .f32⟩
  | 1 => ⟨S24x4x8x512x512, .f32⟩
  | 2 => ⟨S24x4x8x512x384, .f32⟩
  | 3 => ⟨S24x4x8x512x384, .f32⟩
  | 4 => ⟨S24x4x8x512x384, .f32⟩
  | 5 => ⟨S_, .f32⟩
  | 6 => ⟨S_, .f32⟩
  | 7 => ⟨S24x4x8x512x384, .i1⟩
  | 8 => ⟨S24x4x8x512x384, .f32⟩
  | 9 => ⟨S24x4x8x512x384, .f32⟩
  | 10 => ⟨S_, .f32⟩
  | 11 => ⟨S24x4x8x512, .f32⟩
  | 12 => ⟨S24x4x8x512x1, .f32⟩
  | 13 => ⟨S24x4x8x1x384, .f32⟩
  | 14 => ⟨S24x4x8x512x384, .f32⟩
  | 15 => ⟨S24x4x8x512x384, .f32⟩
  | 16 => ⟨S_, .f32⟩
  | 17 => ⟨S24x4x8x512, .f32⟩
  | 18 => ⟨S24x4x8x512x1, .f32⟩
  | 19 => ⟨S24x4x8x512x1, .f32⟩
  | 20 => ⟨S_, .f32⟩
  | 21 => ⟨S24x4x8x512x1, .f32⟩
  | 22 => ⟨S24x4x8x512x1, .f32⟩
  | 23 => ⟨S24x4x8x512x512, .f32⟩
  | 24 => ⟨S24x4x8x512x512, .f32⟩
  | 25 => ⟨S24x4x8x512x512, .bf16⟩
  | 26 => ⟨S24x4x8x512x384, .f32⟩
  | 27 => ⟨S24x4x8x512x384, .f32⟩
  | 28 => ⟨S24x4x8x512x384, .bf16⟩
  | 29 => ⟨S24x4x8x128x512, .f32⟩
  | 30 => ⟨S24x4x512x8x128, .f32⟩
  | 31 => ⟨S24x4x1x8x1, .f32⟩
  | 32 => ⟨S24x4x512x8x128, .f32⟩
  | 33 => ⟨S24x4x512x8x128, .f32⟩
  | 34 => ⟨S24x4x8x384x128, .bf16⟩
  | 35 => ⟨S24x4x8x128x512, .f32⟩
  | 36 => ⟨S24x4x512x8x128, .f32⟩
  | 37 => ⟨S24x4x512x8x128, .f32⟩
  | 38 => ⟨S24x2048x1024, .f32⟩
  | 39 => ⟨S24x2048x1024, .bf16⟩
  | 40 => ⟨S24x8x1x384, .f32⟩
  | _ => ⟨S24x2048x8x128, .fp8e4m3⟩

abbrev hbmTy (i : Nat) : BufTy := match i / 128 with
  | 0 => hbmTy0_0 i
  | 1 => hbmTy0_1 i
  | _ => ⟨S24x2048x8x128, .fp8e4m3⟩

abbrev bufTy : (tb : Table) → Fin (tcTables nBuf tb) → BufTy
  | .hbm, ⟨i, _⟩ => hbmTy i
  | .local _ .vmem, ⟨0, _⟩ => ⟨S24x2048x8x128, .fp8e4m3⟩
  | .local _ .vmem, ⟨1, _⟩ => ⟨S24x2048x8x128, .fp8e4m3⟩
  | .local _ .vmem, ⟨2, _⟩ => ⟨S24x2048x8x128, .bf16⟩
  | .local _ .vmem, ⟨3, _⟩ => ⟨S24x2048x8x128, .bf16⟩
  | _, _ => ⟨S24x2048x8x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_0 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_call1_c : Ref sig .tc := ⟨.hbm, 79, rfl⟩
abbrev main_call1_v0 : Ref sig .tc := ⟨.hbm, 80, rfl⟩
abbrev main_call1_v1 : Ref sig .tc := ⟨.hbm, 81, rfl⟩
abbrev main_call1_c_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_c_1 : Ref sig .tc := ⟨.hbm, 87, rfl⟩
abbrev main_call1_c_2 : Ref sig .tc := ⟨.hbm, 88, rfl⟩
abbrev main_call1_v6 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_c_3 : Ref sig .tc := ⟨.hbm, 95, rfl⟩
abbrev main_call1_v12 : Ref sig .tc := ⟨.hbm, 96, rfl⟩
abbrev main_call1_v13 : Ref sig .tc := ⟨.hbm, 97, rfl⟩
abbrev main_call1_cst : Ref sig .tc := ⟨.hbm, 98, rfl⟩
abbrev main_call1_v14 : Ref sig .tc := ⟨.hbm, 99, rfl⟩
abbrev main_v63 : Ref sig .tc := ⟨.hbm, 100, rfl⟩
abbrev main_cst_1 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_2 : Ref sig .tc := ⟨.hbm, 105, rfl⟩
abbrev main_call2_v0 : Ref sig .tc := ⟨.hbm, 106, rfl⟩
abbrev main_call2_v1 : Ref sig .tc := ⟨.hbm, 107, rfl⟩
abbrev main_call2_v2 : Ref sig .tc := ⟨.hbm, 108, rfl⟩
abbrev main_v67 : Ref sig .tc := ⟨.hbm, 109, rfl⟩
abbrev main_cst_3 : Ref sig .tc := ⟨.hbm, 110, rfl⟩
abbrev main_v68 : Ref sig .tc := ⟨.hbm, 111, rfl⟩
abbrev main_v69 : Ref sig .tc := ⟨.hbm, 112, rfl⟩
abbrev main_cst_4 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v70 : Ref sig .tc := ⟨.hbm, 117, rfl⟩
abbrev main_cst_5 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_cst_6 : Ref sig .tc := ⟨.hbm, 125, rfl⟩
abbrev main_call4_v0 : Ref sig .tc := ⟨.hbm, 126, rfl⟩
abbrev main_call4_v1 : Ref sig .tc := ⟨.hbm, 127, rfl⟩
abbrev main_call4_v2 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_7 : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_v81 : Ref sig .tc := ⟨.hbm, 137, rfl⟩
abbrev main_cst_8 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_9 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_cst_10 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S24x2048x8x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2048x8x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x2048x8x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x2048x8x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Loads.lean ====
/- What one grid step of the idealized kernel leaves in its three output blocks, as one recursion over its eight
   sub-blocks: `Loads` are the values the step loads, `cnt` the running counts, `st` the writes of the running sums (kept
   transposed, in two column ranges), `out` one sub-block of the attention output. -/
module

public import proofs.«01_k».proof.Proof.Gen.KernelIdeal.Frame

@[expose] public section

set_option maxRecDepth 16384

noncomputable section

namespace Cert.Proof.Step

open Cert.KernelIdeal Cert.KernelIdeal.Gen Idealize.ShloMosaic Idealize.ShloMosaic.TcCoe Idealize.SL.Sem

variable {F : FTy → Type} [FloatOps F] [Named F]

/-- The column number of every entry of a 256 by 256 array. -/
def lane : IVec S256x256 32 := iota .tc S256x256 32 [1] iota_S256x256_d1_w32

/-- The row number of every entry of a 16 by 256 array. -/
def row16 : IVec S16x256 32 := iota .tc S16x256 32 [0] iota_S16x256_d0_w32

/-- The row number of every entry of a 128 by 384 array. -/
def row128 : IVec S128x384 32 := iota .tc S128x384 32 [0] iota_S128x384_d0_w32

/-- The first 256 columns of the running sums. -/
def loRect : Rect S128x384 := Rect.unit ![0, 0] S128x256.size inb_S128x384_S128x256_0_0

/-- The last 128 columns of the running sums. -/
def hiRect : Rect S128x384 := Rect.unit ![0, 256] S128x128.size inb_S128x384_S128x128_0_256

/-- All columns of the running sums. -/
def allRect : Rect S128x384 := Rect.unit ![0, 0] S128x384.size inb_S128x384_S128x384_0_0

/-- The values one grid step loads: two scales per block of 512, the codes and the queries and values per sub-block of
    256, the codebook, and the sums and counts before the first key. -/
structure Loads (F : FTy → Type) where
  qs : ℕ → Elt F .f32
  vs : ℕ → Elt F .f32
  q : ℕ → Vec F S1x1x256x128 .fp8e4m3
  kc : ℕ → Vec F S1x256x1 .i32
  kr : ℕ → Vec F S1x1x1x256 .i32
  v : ℕ → Vec F S1x1x256x128 .fp8e4m3
  cb : Vec F S1x384x128 .bf16
  u0 : Vec F S1x1x384x128 .f32
  n0 : Vec F S1x1x1x384 .f32

namespace Loads

variable (L : Loads F) (w : View sig .tc .vmem S128x384 .f32)

/-- Row `k`: the one-hot of the low eight bits of key `k`'s code. -/
def hot (s : ℕ) : FVec F S256x256 .bf16 := k0_pay17 lane (L.kc s)

/-- The values of the sub-block, transposed. -/
def vt (s : ℕ) : FVec F S128x256 .bf16 := k0_pay22 (L.v s)

/-- Whether each key's code is below 256. -/
def low (s : ℕ) : IVec S1x256 1 := k0_pay24 (k0_pay16 (L.kr s))

/-- The counts after sub-block `s` from those before it. -/
def cntStep (s : ℕ) (n : FVec F S1x384 .f32) : FVec F S1x384 .f32 :=
  k0_pay32 row16 n (L.hot s) (L.vt s) (L.low s) k0_pay25 (k0_pay26 row16) k0_pay27 k0_pay28

/-- The counts before sub-block `s`. -/
def cnt : ℕ → FVec F S1x384 .f32
  | 0 => k0_pay8 L.n0
  | s + 1 => L.cntStep s (cnt s)

/-- The write of the first columns in sub-block `s`, over the writes `P`. -/
def loStep (s : ℕ) (P : List (View.Piece (Elt F) S128x384 .f32)) : List (View.Piece (Elt F) S128x384 .f32) :=
  ⟨loRect, k0_pay30 row16 (L.vs (s / 2)) (L.hot s) (L.vt s) (L.low s) k0_pay25 (k0_pay26 row16) k0_pay27 k0_pay28
    (w.readCov P loRect.toLoadRect)⟩ :: P

/-- The write of the last columns in sub-block `s`, over the writes `P`. -/
def hiStep (s : ℕ) (P : List (View.Piece (Elt F) S128x384 .f32)) : List (View.Piece (Elt F) S128x384 .f32) :=
  ⟨hiRect, k0_pay31 row16 (L.vs (s / 2)) (L.hot s) (L.vt s) (L.low s) k0_pay25 (k0_pay26 row16) k0_pay27 k0_pay28
    (w.readCov P hiRect.toLoadRect)⟩ :: P

/-- The two writes of the running sums in sub-block `s`. -/
def sumStep (s : ℕ) (P : List (View.Piece (Elt F) S128x384 .f32)) : List (View.Piece (Elt F) S128x384 .f32) :=
  L.hiStep w s (L.loStep w s P)

/-- The writes of the running sums before sub-block `s`, the last first. -/
def st : ℕ → List (View.Piece (Elt F) S128x384 .f32)
  | 0 => [⟨allRect, k0_pay7 L.u0⟩]
  | s + 1 => L.sumStep w s (st s)

/-- The factor of the exponents in block `n`. -/
def scale (n : ℕ) : F .f32 := k0_pay9 (L.qs n)

/-- The query scores of all codes, the logarithm of the count `n` added. -/
def codeScoreOf (s : ℕ) (n : FVec F S1x384 .f32) : FVec F S384x256 .f32 :=
  k0_pay19 (k0_pay3 L.cb) k0_pay5 (k0_pay12 row128 n (L.scale (s / 2))) (L.q s)

/-- The query scores of the sub-block's own keys. -/
def keyScore (s : ℕ) : FVec F S256x256 .f32 := k0_pay20 (k0_pay4 L.cb) lane k0_pay5 k0_pay6 (L.kc s) (L.q s)

/-- Each query's greatest score. -/
def topOf (s : ℕ) (n : FVec F S1x384 .f32) : FVec F S1x256 .f32 :=
  k0_pay21 (k0_pay3 L.cb) (k0_pay4 L.cb) lane k0_pay5 k0_pay6 (k0_pay12 row128 n (L.scale (s / 2))) (L.kc s) (L.q s)

/-- The mean of the values of each code. -/
def meanOf (n : FVec F S1x384 .f32) (P : List (View.Piece (Elt F) S128x384 .f32)) : FVec F S128x384 .bf16 :=
  k0_pay14 (w.readCov P allRect.toLoadRect) (k0_pay13 n)

/-- The attention output of sub-block `s` over the counts `n` and the running sums `P`. -/
def outOf (s : ℕ) (n : FVec F S1x384 .f32) (P : List (View.Piece (Elt F) S128x384 .f32)) : FVec F S1x256x128 .bf16 :=
  k0_pay23 (L.scale (s / 2)) (L.vs (s / 2)) (meanOf w n P) (L.codeScoreOf s n) (L.keyScore s) (L.topOf s n) (L.v s)

/-- The attention output of sub-block `s`. -/
def out (s : ℕ) : FVec F S1x256x128 .bf16 := L.outOf w s (L.cnt s) (L.st w s)

end Loads

end Cert.Proof.Step
-- ==== Proof.Pay.lean ====
/- The kernel's computed values at `Ideal`, read at an index. -/
module

public import proofs.«01_k».proof.Proof.Loads
public import Idealize.ShloMosaic.Lib.Pointwise

@[expose] public section

set_option maxRecDepth 16384

noncomputable section

namespace Cert.Proof.Pay

open Cert.KernelIdeal Cert.KernelIdeal.Gen Idealize.ShloMosaic Idealize.ShloMosaic.TcCoe Idealize.SL.Sem
open Cert.Proof.Step

/-! ### Words and sums -/

/-- The low eight bits of a code. -/
theorem low_bits : ∀ x : Fin 384, IntOp.andi (BitVec.ofNat 32 x.val) 255#32 = BitVec.ofNat 32 (x.val % 256) := by
  decide +kernel

/-- Comparing two small numbers as words. -/
theorem eq_word (a b : ℕ) (ha : a < 1024) (hb : b < 1024) :
    IntOp.cmpi .eq (BitVec.ofNat 32 a) (BitVec.ofNat 32 b) = BitVec.ofBool (decide (a = b)) := by
  unfold IntOp.cmpi
  congr 1
  rw [Bool.eq_iff_iff, beq_iff_eq, decide_eq_true_eq, ← BitVec.toNat_inj, BitVec.toNat_ofNat, BitVec.toNat_ofNat,
    Nat.mod_eq_of_lt (by omega), Nat.mod_eq_of_lt (by omega)]

/-- A small number as a signed word. -/
theorem toInt_small (a : ℕ) (ha : a < 1024) : (BitVec.ofNat 32 a).toInt = (a : ℤ) := by
  have h : (BitVec.ofNat 32 a).toNat = a := by rw [BitVec.toNat_ofNat]; exact Nat.mod_eq_of_lt (by omega)
  rw [BitVec.toInt_eq_toNat_of_lt (by rw [h]; omega), h]

/-- Ordering two small numbers as words. -/
theorem slt_word (a b : ℕ) (ha : a < 1024) (hb : b < 1024) :
    IntOp.cmpi .slt (BitVec.ofNat 32 a) (BitVec.ofNat 32 b) = BitVec.ofBool (decide (a < b)) := by
  unfold IntOp.cmpi
  congr 1
  rw [Bool.eq_iff_iff, BitVec.slt_iff_toInt_lt, decide_eq_true_eq, toInt_small a ha, toInt_small b hb, Int.ofNat_lt]

/-- Small numbers compare as words as they do as numbers. -/
theorem sle_word (a b : ℕ) (ha : a < 1024) (hb : b < 1024) :
    IntOp.cmpi .sle (BitVec.ofNat 32 a) (BitVec.ofNat 32 b) = BitVec.ofBool (decide (a ≤ b)) := by
  unfold IntOp.cmpi
  congr 1
  rw [Bool.eq_iff_iff, BitVec.sle_iff_toInt_le, decide_eq_true_eq, toInt_small a ha, toInt_small b hb, Int.ofNat_le]

/-- A selection by a decided proposition is a conditional. -/
theorem select_dec {α : Type} (p : Prop) [Decidable p] (x y : α) :
    Scalar.select (BitVec.ofBool (decide p)) x y = if p then x else y := by
  by_cases h : p <;> simp [h, Scalar.select]

/-- A sum that looks one entry up. -/
theorem sum_pick {n : ℕ} (m o : ℕ) (f : Fin n → EReal) :
    (∑ x, if m = o + x.val then f x else 0) = if h : o ≤ m ∧ m - o < n then f ⟨m - o, h.2⟩ else 0 := by
  by_cases h : o ≤ m ∧ m - o < n
  · rw [dif_pos h, Finset.sum_eq_single (⟨m - o, h.2⟩ : Fin n)]
    · rw [if_pos (by show m = o + (m - o); omega)]
    · intro b _ hb
      rw [if_neg]
      intro e
      exact hb (Fin.ext (by show b.val = m - o; omega))
    · intro hh; exact absurd (Finset.mem_univ _) hh
  · rw [dif_neg h]
    refine Finset.sum_eq_zero fun x _ => if_neg fun e => h ⟨by omega, by have := x.isLt; omega⟩

/-- A table cut into three parts of 128, looked up by the low eight bits and the comparison with 256. -/
theorem look (v : Fin 384) (f : Fin 384 → EReal) :
    (if v.val < 256 then
      (∑ x : Fin 128, Scalar.select (IntOp.cmpi .eq (BitVec.ofNat 32 (v.val % 256)) (BitVec.ofNat 32 x.val)) (f ⟨x.val, by omega⟩) 0)
        + ∑ x : Fin 128, Scalar.select (IntOp.cmpi .eq (BitVec.ofNat 32 (v.val % 256)) (BitVec.ofNat 32 (128 + x.val)))
            (f ⟨128 + x.val, by omega⟩) 0
    else ∑ x : Fin 128, Scalar.select (IntOp.cmpi .eq (BitVec.ofNat 32 (v.val % 256)) (BitVec.ofNat 32 x.val))
            (f ⟨256 + x.val, by omega⟩) 0) = f v := by
  have e0 : ∀ g : Fin 128 → EReal, (∑ x : Fin 128,
      Scalar.select (IntOp.cmpi .eq (BitVec.ofNat 32 (v.val % 256)) (BitVec.ofNat 32 x.val)) (g x) 0)
      = if h : v.val % 256 < 128 then g ⟨v.val % 256, h⟩ else 0 := fun g => by
    refine (Finset.sum_congr rfl fun x _ => ?_).trans ((sum_pick (v.val % 256) 0 g).trans ?_)
    · rw [eq_word (v.val % 256) x.val (by omega) (by omega), select_dec, Nat.zero_add]
    · by_cases h : v.val % 256 < 128
      · rw [dif_pos h, dif_pos ⟨Nat.zero_le _, h⟩]; rfl
      · rw [dif_neg h, dif_neg (fun hh => h hh.2)]
  have e1 : ∀ g : Fin 128 → EReal, (∑ x : Fin 128,
      Scalar.select (IntOp.cmpi .eq (BitVec.ofNat 32 (v.val % 256)) (BitVec.ofNat 32 (128 + x.val))) (g x) 0)
      = if h : 128 ≤ v.val % 256 ∧ v.val % 256 - 128 < 128 then g ⟨v.val % 256 - 128, h.2⟩ else 0 := fun g => by
    refine (Finset.sum_congr rfl fun x _ => ?_).trans (sum_pick (v.val % 256) 128 g)
    rw [eq_word (v.val % 256) (128 + x.val) (by omega) (by omega), select_dec]
  rw [e0 fun x => f ⟨x.val, by omega⟩, e0 fun x => f ⟨256 + x.val, by omega⟩, e1 fun x => f ⟨128 + x.val, by omega⟩]
  have hv := v.isLt
  by_cases h : v.val < 256
  · rw [if_pos h]
    by_cases h1 : v.val % 256 < 128
    · rw [dif_pos h1, dif_neg (by omega), add_zero]
      exact congrArg f (Fin.ext (by show v.val % 256 = v.val; omega))
    · rw [dif_neg h1, dif_pos (by omega), zero_add]
      exact congrArg f (Fin.ext (by show 128 + (v.val % 256 - 128) = v.val; omega))
  · rw [if_neg h, dif_pos (by omega)]
    exact congrArg f (Fin.ext (by show 256 + v.val % 256 = v.val; omega))

/-- A sum of which only the first three terms are not zero. -/
theorem sum_three (f : Fin 128 → EReal) (h : ∀ x : Fin 128, 3 ≤ x.val → f x = 0) : ∑ x, f x = f 0 + (f 1 + f 2) := by
  rw [← Finset.sum_subset (Finset.subset_univ ({0, 1, 2} : Finset (Fin 128)))]
  · rw [Finset.sum_insert (by decide), Finset.sum_pair (by decide)]
  · intro x _ hx
    refine h x (not_lt.mp fun hlt => hx ?_)
    have : x = 0 ∨ x = 1 ∨ x = 2 := by
      rcases x with ⟨v, hv⟩
      have : v < 3 := hlt
      interval_cases v <;> simp
    simpa using this

/-! ### The named constants -/

/-- The named constant `log2e` is one over the logarithm of two. -/
theorem log2e_val : Named.named (F := Ideal) (φ := .f32) κ "log2e" 1069066811#32 = (((Real.log 2)⁻¹ : ℝ) : EReal) :=
  IdealRules.named_const.ideal_named_scalar _ _ _ _ rfl

/-- The named constant `neg_inf` is minus infinity. -/
theorem neg_inf_val : Named.named (F := Ideal) (φ := .f32) κ "neg_inf" 4284592614#32 = (⊥ : EReal) :=
  IdealRules.named_const.ideal_named_scalar _ _ _ _ rfl

/-- The named constant `score_scale_log2e` is one over the square root of 128 and over the logarithm of two. -/
theorem score_val : Named.named (F := Ideal) (φ := .f32) κ "score_scale_log2e" 0x3E0293EE#32
    = (((Real.sqrt 128)⁻¹ * (Real.log 2)⁻¹ : ℝ) : EReal) :=
  IdealRules.named_const.ideal_named_scalar _ _ _ _ rfl

/-! ### The values -/

variable (L : Loads Ideal) (cd : ℕ → Fin 256 → Fin 384)

/-- The two copies of the codes both hold `cd`. -/
structure Codes : Prop where
  kc : ∀ s k, L.kc s (ix3 0 k 0) = BitVec.ofNat 32 (cd s k).val
  kr : ∀ s k, L.kr s (ix4 0 0 0 k) = BitVec.ofNat 32 (cd s k).val

variable {L cd} (hc : Codes L cd)
include hc

/-- Entry of the one-hot matrix: one where the low eight bits of the key's code are the lane. -/
theorem hot_at (s : ℕ) (k c : Fin 256) : L.hot s (ix2 k c) = if (cd s k).val % 256 = c.val then 1 else 0 := by
  pointwise [Loads.hot, k0_pay17, k0_pay15, lane]
  rw [hc.kc, low_bits, eq_word _ _ (by omega) (by omega), select_dec]

/-- The update, first part: the sums of the values of the keys of code `c`. -/
theorem pay29_lo (s : ℕ) (d : Fin 128) (c : Fin 256) :
    k0_pay29 row16 (L.hot s) (L.vt s) (L.low s) k0_pay25 (k0_pay26 row16) k0_pay27 k0_pay28 (ix2 ⟨d.val, by omega⟩ c)
      = ∑ k : Fin 256, if (cd s k).val = c.val then L.v s (ix4 0 0 k d) else 0 := by
  pointwise [k0_pay29, row16, Loads.vt, k0_pay22, Loads.low, k0_pay24, k0_pay16, k0_pay25, k0_pay26, k0_pay27, k0_pay28]
  refine Finset.sum_congr rfl fun k _ => ?_
  rw [hc.kr, slt_word (cd s k).val 256 (by omega) (by omega), select_dec, hot_at hc]
  by_cases h : (cd s k).val < 256
  · rw [if_pos h, Nat.mod_eq_of_lt h, mul_ite, mul_one, mul_zero]
  · rw [if_neg h, if_neg (by omega)]

/-- The update, second part: the sums of the values of the keys of code `256 + c`. -/
theorem pay29_hi (s : ℕ) (d : Fin 128) (c : Fin 256) :
    k0_pay29 row16 (L.hot s) (L.vt s) (L.low s) k0_pay25 (k0_pay26 row16) k0_pay27 k0_pay28 (ix2 ⟨128 + d.val, by omega⟩ c)
      = ∑ k : Fin 256, if (cd s k).val = 256 + c.val then L.v s (ix4 0 0 k d) else 0 := by
  pointwise [k0_pay29, row16, Loads.vt, k0_pay22, Loads.low, k0_pay24, k0_pay16, k0_pay25, k0_pay26, k0_pay27, k0_pay28]
  refine Finset.sum_congr rfl fun k _ => ?_
  rw [hc.kr, slt_word (cd s k).val 256 (by omega) (by omega), select_dec, hot_at hc]
  by_cases h : (cd s k).val < 256
  · rw [if_pos h, if_neg (by omega)]
  · have e : (cd s k).val % 256 = c.val ↔ (cd s k).val = 256 + c.val := by omega
    rw [if_neg h, mul_ite, mul_one, mul_zero, if_congr e rfl rfl]

/-- The update, row 256: how many keys have the code `c`. -/
theorem pay29_nlo (s : ℕ) (c : Fin 256) :
    k0_pay29 row16 (L.hot s) (L.vt s) (L.low s) k0_pay25 (k0_pay26 row16) k0_pay27 k0_pay28 (ix2 256 c)
      = ∑ k : Fin 256, if (cd s k).val = c.val then 1 else 0 := by
  pointwise [k0_pay29, row16, Loads.vt, k0_pay22, Loads.low, k0_pay24, k0_pay16, k0_pay25, k0_pay26, k0_pay27, k0_pay28]
  refine Finset.sum_congr rfl fun k _ => ?_
  rw [hc.kr, slt_word (cd s k).val 256 (by omega) (by omega), select_dec, hot_at hc]
  by_cases h : (cd s k).val < 256
  · rw [if_pos h, Nat.mod_eq_of_lt h]
  · rw [if_neg h, if_neg (by omega)]

/-- The update, row 257: how many keys have the code `256 + c`. -/
theorem pay29_nhi (s : ℕ) (c : Fin 256) :
    k0_pay29 row16 (L.hot s) (L.vt s) (L.low s) k0_pay25 (k0_pay26 row16) k0_pay27 k0_pay28 (ix2 257 c)
      = ∑ k : Fin 256, if (cd s k).val = 256 + c.val then 1 else 0 := by
  pointwise [k0_pay29, row16, Loads.vt, k0_pay22, Loads.low, k0_pay24, k0_pay16, k0_pay25, k0_pay26, k0_pay27, k0_pay28]
  refine Finset.sum_congr rfl fun k _ => ?_
  simp only [hc.kr, slt_word (cd s k).val 256 (Nat.lt_trans (cd s k).isLt (by decide)) (by decide), select_dec, hot_at hc, show IntOp.cmpi .eq 1#32 0#32 = BitVec.ofBool (decide False) from rfl, if_false]
  by_cases h : (cd s k).val < 256
  · rw [if_pos h, zero_mul, if_neg (by omega)]
  · have e : (cd s k).val % 256 = c.val ↔ (cd s k).val = 256 + c.val := by omega
    rw [if_neg h, one_mul, if_congr e rfl rfl]

/-- The counts after a sub-block: those before, and one for each key of the code. -/
theorem cnt_at (s : ℕ) (c : Fin 384) :
    L.cnt (s + 1) (ix2 0 c) = L.cnt s (ix2 0 c) + ∑ k : Fin 256, if cd s k = c then 1 else 0 := by
  show L.cntStep s (L.cnt s) (ix2 0 c) = _
  pointwise [Loads.cntStep, k0_pay32]
  refine congrArg₂ (· + ·) rfl ?_
  by_cases h : c.val < 256
  · rw [dif_pos h, pay29_nlo hc]
    refine Finset.sum_congr rfl fun k _ => ?_
    simp only [Fin.ext_iff]
  · rw [dif_neg h, pay29_nhi hc]
    refine Finset.sum_congr rfl fun k _ => ?_
    simp only [Fin.ext_iff]
    congr 2
    omega

/-- A block's own score: the code's, of the keys not after the query. -/
theorem keyScore_at (s : ℕ) (j : Fin 256) (r : Fin 256) : L.keyScore s (ix2 j r)
    = if j.val ≤ r.val then ∑ x : Fin 128, L.cb (ix3 0 (cd s j) x) * L.q s (ix4 0 0 r x) else ⊥ := by
  pointwise [Loads.keyScore, k0_pay20, k0_pay18, k0_pay17, k0_pay15, k0_pay4, k0_pay5, k0_pay3, k0_pay6, lane]
  refine (congrArg (fun b => Scalar.select b _ _) (sle_word j.val r.val (by omega) (by omega))).trans ?_
  refine (select_dec _ _ _).trans ?_
  refine if_congr Iff.rfl ?_ neg_inf_val
  refine (congrArg₂ (· + ·) rfl Finset.sum_const_zero).trans ((add_zero _).trans ?_)
  refine Finset.sum_congr rfl fun x _ => ?_
  refine congrArg₂ (· * ·) ?_ rfl
  simp only [hc.kc, low_bits, slt_word (cd s j).val 256 (Nat.lt_trans (cd s j).isLt (by decide)) (by decide), select_dec,
    Finset.sum_const_zero, add_zero]
  exact look (cd s j) fun c => L.cb (ix3 0 c x)

omit hc

/-- The mean of a code: its sum over its count, zero where the count is not positive. -/
theorem mean_at (w : View sig .tc .vmem S128x384 .f32) (n : FVec Ideal S1x384 .f32)
    (P : List (View.Piece (Elt Ideal) S128x384 .f32)) (d : Fin 128) (c : Fin 384) : Loads.meanOf w n P (ix2 d c)
    = w.readCov P allRect.toLoadRect (ix2 d c) * if 0 < n (ix2 0 c) then Ideal.div 1 (n (ix2 0 c)) else 0 := by
  pointwise [Loads.meanOf, k0_pay14, k0_pay13, k0_pay11, k0_pay10]
  by_cases h : 0 < n (ix2 0 c)
  · simp only [if_pos h]
  · simp only [if_neg h]

/-- The score of a code: the product of the query and the code's vector, and the bias, whose three parts add up to it. -/
theorem codeScore_at (s : ℕ) (n : FVec Ideal S1x384 .f32) (c : Fin 384) (r : Fin 256) (b : EReal)
    (hb : b = if 0 < n (ix2 0 c) then
              Ideal.log (n (ix2 0 c)) * (((Real.log 2)⁻¹ : ℝ) : EReal) * Ideal.div 1 (L.scale (s / 2))
            else ⊥) (hbb : b + ((b - b) + ((b - b) - (b - b))) = b) :
    L.codeScoreOf s n (ix2 c r) = (∑ x : Fin 128, L.cb (ix3 0 c x) * L.q s (ix4 0 0 r x)) + b := by
  pointwise [Loads.codeScoreOf, k0_pay19, k0_pay18, k0_pay12, k0_pay11, k0_pay10, k0_pay5, k0_pay3, row128]
  refine congrArg₂ (· + ·) rfl ?_
  have e : (if 0 < n (ix2 0 c) then
              Ideal.log (if 0 < n (ix2 0 c) then n (ix2 0 c) else 1) * Named.named (F := Ideal) (φ := .f32) κ "log2e" 1069066811#32 *
                Ideal.div 1 (L.scale (s / 2))
            else Named.named (F := Ideal) (φ := .f32) κ "neg_inf" 4284592614#32) = b := by
    rw [log2e_val, neg_inf_val, hb]
    by_cases h : 0 < n (ix2 0 c)
    · simp only [if_pos h]
    · simp only [if_neg h]
  simp only [e]
  rw [sum_three]
  · exact hbb
  · intro x hx
    rw [slt_word x.val 3 (by omega) (by omega), select_dec, if_neg (by omega)]

/-- The maximum of a query's scores, over the codes and over the keys of the sub-block. -/
theorem top_at (s : ℕ) (n : FVec Ideal S1x384 .f32) (r : Fin 256) : L.topOf s n (ix2 0 r)
    = max (Finset.univ.fold max ⊥ fun c : Fin 384 => L.codeScoreOf s n (ix2 c r))
      (Finset.univ.fold max ⊥ fun j : Fin 256 => L.keyScore s (ix2 j r)) := by
  pointwise [Loads.topOf, k0_pay21]
  have e : Ideal.ofBits FTy.f32 4286578688#32 = ⊥ := by simp [Ideal.ofBits, Ideal.ieee]
  rw [e]
  rfl

/-- The output of a sub-block: the means and the values weighted by powers of two, over the sum of the weights. -/
theorem out_at (w : View sig .tc .vmem S128x384 .f32) (s : ℕ) (n : FVec Ideal S1x384 .f32)
    (P : List (View.Piece (Elt Ideal) S128x384 .f32)) (r : Fin 256) (d : Fin 128) : L.outOf w s n P (ix3 0 r d)
   = ((∑ x : Fin 384, Loads.meanOf w n P (ix2 d x) * Ideal.exp2 ((L.codeScoreOf s n (ix2 x r) - L.topOf s n (ix2 0 r)) * L.scale (s / 2)))
      + (∑ x : Fin 256, L.v s (ix4 0 0 x d) * Ideal.exp2 ((L.keyScore s (ix2 x r) - L.topOf s n (ix2 0 r)) * L.scale (s / 2)))
        * L.vs (s / 2))
      * Ideal.div 1
        ((∑ x : Fin 384, Ideal.exp2 ((L.codeScoreOf s n (ix2 x r) - L.topOf s n (ix2 0 r)) * L.scale (s / 2))) +
          ∑ x : Fin 256, Ideal.exp2 ((L.keyScore s (ix2 x r) - L.topOf s n (ix2 0 r)) * L.scale (s / 2))) := by
  pointwise [Loads.outOf, k0_pay23, k0_pay22]
  rfl

end Cert.Proof.Pay
-- ==== Proof.Attn.lean ====
/- Pure facts on extended reals behind the value claim: softmax attention over codes. A code's weight is its exponential
   times how often it has been counted; a key scores as its code does. Attention over counted codes and over the single
   keys is one formula, `attn`, of the total counts and total sums, wherever the history is cut into the two. -/
module

public import Idealize.ShloMosaic.PureOps.Ideal

@[expose] public section

noncomputable section

namespace Cert.Proof.Attn

open Idealize.ShloMosaic

/-- A nonnegative real distributes over a sum of two. -/
theorem coe_mul_add {r : ℝ} (hr : 0 ≤ r) (x y : EReal) : (r : EReal) * (x + y) = r * x + r * y :=
  EReal.left_distrib_of_nonneg_of_ne_top (by exact_mod_cast hr) (EReal.coe_ne_top r) x y

/-- A nonnegative real distributes over a finite sum. -/
theorem coe_mul_sum {ι : Type} (s : Finset ι) {r : ℝ} (hr : 0 ≤ r) (f : ι → EReal) :
    (r : EReal) * ∑ i ∈ s, f i = ∑ i ∈ s, (r : EReal) * f i := by
  classical
  induction s using Finset.induction_on with
  | empty => simp
  | insert i s hi ih => rw [Finset.sum_insert hi, Finset.sum_insert hi, coe_mul_add hr, ih]

/-- A finite sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

variable {C : Type} [Fintype C] [DecidableEq C]

/-- The exponential of a score: zero at minus infinity. -/
def wt (a : ℝ) (x : EReal) : ℝ := if x = ⊥ then 0 else Real.exp (a * x.toReal)

/-- A weight is not negative. -/
theorem wt_nonneg (a : ℝ) (x : EReal) : 0 ≤ wt a x := by
  unfold wt; split_ifs
  · exact le_rfl
  · exact (Real.exp_pos _).le

/-- The weight of a score above minus infinity is positive. -/
theorem wt_pos (a : ℝ) {x : EReal} (h : x ≠ ⊥) : 0 < wt a x := by
  unfold wt; rw [if_neg h]; exact Real.exp_pos _

/-- No softmax weights: some counted code scores plus infinity, or all of them minus infinity. -/
def Flat (X : C → EReal) (N : C → ℝ) : Prop := (∃ c, 0 < N c ∧ X c = ⊤) ∨ ∀ c, 0 < N c → X c = ⊥

open Classical in
/-- The softmax weight of one occurrence of a code. -/
def share (a : ℝ) (X : C → EReal) (N : C → ℝ) (c : C) : ℝ :=
  if Flat X N ∨ N c = 0 then 0 else wt a (X c) / ∑ c', N c' * wt a (X c')

/-- Attention: the sums of the codes, weighted. -/
def attn (a : ℝ) (X : C → EReal) (N : C → ℝ) (W : C → EReal) : EReal := ∑ c, (share a X N c : EReal) * W c

/-- Under a maximum of plus infinity every weight is zero. -/
theorem exp_sub_top (y : EReal) : Ideal.exp (y - ⊤) = 0 := by
  rw [sub_eq_add_neg, EReal.neg_top, EReal.add_bot]; rfl

/-- The weight of a score of minus infinity is zero. -/
theorem exp_bot_sub (y : EReal) : Ideal.exp (⊥ - y) = 0 := by
  rw [sub_eq_add_neg, EReal.bot_add]; rfl

/-- The same for powers of two: under a maximum of plus infinity every weight is zero. -/
theorem exp2_top {s : ℝ} (hs : 0 < s) (y : EReal) : Ideal.exp2 ((y - ⊤) * (s : EReal)) = 0 := by
  rw [sub_eq_add_neg, EReal.neg_top, EReal.add_bot, EReal.bot_mul_coe_of_pos hs]; rfl

/-- The same for powers of two: the weight of a score of minus infinity is zero. -/
theorem exp2_bot {s : ℝ} (hs : 0 < s) (y : EReal) : Ideal.exp2 ((⊥ - y) * (s : EReal)) = 0 := by
  rw [sub_eq_add_neg, EReal.bot_add, EReal.bot_mul_coe_of_pos hs]; rfl

/-- The exponential of a scaled score over a real maximum. -/
theorem exp_score {a : ℝ} (ha : 0 < a) {x : EReal} (hx : x ≠ ⊤) (m : ℝ) :
    Ideal.exp (x * (a : EReal) - (m : EReal)) = ((wt a x * Real.exp (-m) : ℝ) : EReal) := by
  induction x with
  | bot => rw [EReal.bot_mul_coe_of_pos ha, exp_bot_sub]; simp [wt]
  | top => exact absurd rfl hx
  | coe r =>
    rw [← EReal.coe_mul, ← EReal.coe_sub]
    show ((Real.exp (r * a - m) : ℝ) : EReal) = _
    rw [wt, if_neg (EReal.coe_ne_bot r), EReal.toReal_coe, ← Real.exp_add]
    congr 2; ring

/-- The power of two of a biased score over a real maximum: the bias multiplies by `t`. -/
theorem exp2_score {a : ℝ} (ha : 0 < a) {x : EReal} (hx : x ≠ ⊤) {t : ℝ} (ht : 0 < t) (m : ℝ) :
    Ideal.exp2 ((x + ((Real.log t / a : ℝ) : EReal) - (m : EReal)) * ((a * (Real.log 2)⁻¹ : ℝ) : EReal))
      = ((t * (wt a x * Real.exp (-(a * m))) : ℝ) : EReal) := by
  have h2 : 0 < Real.log 2 := Real.log_pos (by norm_num)
  have hs : 0 < a * (Real.log 2)⁻¹ := mul_pos ha (inv_pos.mpr h2)
  induction x with
  | bot => rw [EReal.bot_add, exp2_bot hs]; simp [wt]
  | top => exact absurd rfl hx
  | coe r =>
    rw [← EReal.coe_add, ← EReal.coe_sub, ← EReal.coe_mul]
    show ((Real.rpow 2 ((r + Real.log t / a - m) * (a * (Real.log 2)⁻¹)) : ℝ) : EReal) = _
    rw [wt, if_neg (EReal.coe_ne_bot r), EReal.toReal_coe]
    congr 1
    show (2 : ℝ) ^ ((r + Real.log t / a - m) * (a * (Real.log 2)⁻¹)) = _
    rw [Real.rpow_def_of_pos (by norm_num)]
    conv_rhs => rw [← Real.exp_log ht]
    rw [← Real.exp_add, ← Real.exp_add]
    congr 1
    field_simp
    ring

/-- The same without a bias. -/
theorem exp2_plain {a : ℝ} (ha : 0 < a) {x : EReal} (hx : x ≠ ⊤) (m : ℝ) :
    Ideal.exp2 ((x - (m : EReal)) * ((a * (Real.log 2)⁻¹ : ℝ) : EReal))
      = ((wt a x * Real.exp (-(a * m)) : ℝ) : EReal) := by
  have h := exp2_score ha hx one_pos m
  rwa [Real.log_one, zero_div, EReal.coe_zero, add_zero, one_mul] at h

section Split

variable {J : Type} [Fintype J] (code : J → C) (vis : J → Prop) [DecidablePred vis] (n : C → ℝ) (B : C → EReal)
  (v : J → EReal) (vs : ℝ)

/-- The total count of a code: the counted history and the visible keys. -/
def total (c : C) : ℝ := n c + ∑ j, if vis j ∧ code j = c then (1 : ℝ) else 0

/-- The total sum of a code: the summed history and the visible keys' values. -/
def mass (c : C) : EReal := B c + ∑ j, if vis j ∧ code j = c then v j * (vs : EReal) else 0

variable {n} in
/-- A code occurs just when it was counted before or some visible key has it. -/
theorem total_pos (hn : ∀ c, 0 ≤ n c) (c : C) :
    0 < total code vis n c ↔ 0 < n c ∨ ∃ j, vis j ∧ code j = c := by
  unfold total
  have h0 : ∀ j, (0 : ℝ) ≤ if vis j ∧ code j = c then (1 : ℝ) else 0 := fun j => by split_ifs <;> norm_num
  constructor
  · intro h
    by_contra hc
    push Not at hc
    have hz : ∑ j, (if vis j ∧ code j = c then (1 : ℝ) else 0) = 0 :=
      Finset.sum_eq_zero fun j _ => if_neg fun hj => hc.2 j hj.1 hj.2
    rw [hz] at h; linarith [hc.1]
  · rintro (h | ⟨j, hj⟩)
    · have := Finset.sum_nonneg fun j (_ : j ∈ Finset.univ) => h0 j
      linarith
    · have h1 : (1 : ℝ) ≤ ∑ j, if vis j ∧ code j = c then (1 : ℝ) else 0 := by
        have := Finset.single_le_sum (f := fun j => if vis j ∧ code j = c then (1 : ℝ) else 0)
          (fun j _ => h0 j) (Finset.mem_univ j)
        simpa [hj] using this
      linarith [hn c]

variable {n} in
/-- The number of occurrences of a code is not negative. -/
theorem total_nonneg (hn : ∀ c, 0 ≤ n c) (c : C) : 0 ≤ total code vis n c :=
  add_nonneg (hn c) (Finset.sum_nonneg fun j _ => by split_ifs <;> norm_num)

variable {n B} in
/-- A code never counted has total sum zero. -/
theorem mass_zero (hn : ∀ c, 0 ≤ n c) (hB : ∀ c, n c = 0 → B c = 0) (c : C) (h : total code vis n c = 0) :
    mass code vis B v vs c = 0 := by
  have hp := (total_pos code vis hn c).not.mp (by rw [h]; exact lt_irrefl _)
  push Not at hp
  unfold mass
  rw [hB c (le_antisymm hp.1 (hn c)), zero_add]
  exact Finset.sum_eq_zero fun j _ => if_neg fun hj => hp.2 j hj.1 hj.2

/-- The counted weights over codes and keys: sums over the keys regroup by code. -/
theorem sum_total (w : C → ℝ) :
    ∑ c, total code vis n c * w c = (∑ j, if vis j then w (code j) else 0) + ∑ c, n c * w c := by
  simp only [total, add_mul, Finset.sum_add_distrib, Finset.sum_mul]
  rw [add_comm]
  congr 1
  rw [Finset.sum_comm]
  refine Finset.sum_congr rfl fun j _ => ?_
  by_cases hj : vis j
  · simp [hj]
  · simp [hj]

variable {n B vs} in
/-- Weights `ρ` on the codes: over the keys and the summed history, or over the total sums. -/
theorem regroup (hvs : 0 ≤ vs) (hn : ∀ c, 0 ≤ n c) (hB : ∀ c, n c = 0 → B c = 0) (ρ : C → ℝ) (hρ : ∀ c, 0 ≤ ρ c) :
    (∑ j, (if vis j then ((ρ (code j) : ℝ) : EReal) else 0) * v j) * (vs : EReal)
        + ∑ c, (ρ c : EReal) * B c
      = ∑ c, (ρ c : EReal) * mass code vis B v vs c := by
  have h1 : ∀ c, (ρ c : EReal) * mass code vis B v vs c
      = ∑ j, (if vis j ∧ code j = c then (ρ c : EReal) * (v j * (vs : EReal)) else 0) + (ρ c : EReal) * B c := fun c => by
    unfold mass
    rw [coe_mul_add (hρ c), coe_mul_sum _ (hρ c), add_comm]
    congr 1
    refine Finset.sum_congr rfl fun j _ => ?_
    split_ifs
    · rfl
    · exact mul_zero _
  simp only [h1, Finset.sum_add_distrib]
  congr 1
  rw [Finset.sum_comm, mul_comm, coe_mul_sum _ hvs]
  refine Finset.sum_congr rfl fun j _ => ?_
  by_cases hj : vis j
  · simp only [hj, true_and, if_true, Finset.sum_ite_eq, Finset.mem_univ]
    rw [mul_comm (vs : EReal), mul_assoc]
  · simp [hj]

variable {n B} in
/-- Off the flat case, the softmax weights as quotients. -/
theorem attn_eq (hn : ∀ c, 0 ≤ n c) (hB : ∀ c, n c = 0 → B c = 0) {a : ℝ} {X : C → EReal}
    (hf : ¬ Flat X (total code vis n)) :
    attn a X (total code vis n) (mass code vis B v vs)
      = ∑ c, ((wt a (X c) / ∑ c', total code vis n c' * wt a (X c') : ℝ) : EReal) * mass code vis B v vs c := by
  refine Finset.sum_congr rfl fun c _ => ?_
  by_cases h : total code vis n c = 0
  · rw [mass_zero code vis v vs hn hB c h, mul_zero, mul_zero]
  · rw [share, if_neg (not_or.mpr ⟨hf, h⟩)]

/-- In the flat case attention is zero. -/
theorem attn_flat {a : ℝ} {X : C → EReal} {N : C → ℝ} {W : C → EReal} (hf : Flat X N) : attn a X N W = 0 :=
  Finset.sum_eq_zero fun c _ => by rw [share, if_pos (Or.inl hf), EReal.coe_zero, zero_mul]

variable {n} in
/-- Off the flat case the weights add up to a positive real. -/
theorem norm_pos (hn : ∀ c, 0 ≤ n c) (a : ℝ) {X : C → EReal} (hf : ¬ Flat X (total code vis n)) :
    0 < ∑ c, total code vis n c * wt a (X c) := by
  unfold Flat at hf; push Not at hf
  obtain ⟨c, hc, hx⟩ := hf.2
  refine Finset.sum_pos' (fun c _ => mul_nonneg (total_nonneg code vis hn c) (wt_nonneg a _))
    ⟨c, Finset.mem_univ c, mul_pos hc (wt_pos a hx)⟩

variable {n B vs} in
/-- Attention by scaled scores with the history's weights and the keys' weights apart. -/
theorem ref_attn (hvs : 0 ≤ vs) (hn : ∀ c, 0 ≤ n c) (hB : ∀ c, n c = 0 → B c = 0) {a : ℝ} (ha : 0 < a) (X : C → EReal)
    (m : EReal) (hJ : ∀ j, vis j → X (code j) * (a : EReal) ≤ m) (hC : ∀ c, 0 < n c → X c * (a : EReal) ≤ m)
    (hm : (∃ j, vis j ∧ m = X (code j) * (a : EReal)) ∨ ∃ c, 0 < n c ∧ m = X c * (a : EReal))
    (e : J → EReal) (he : ∀ j, e j = if vis j then Ideal.exp (X (code j) * (a : EReal) - m) else 0)
    (w : C → EReal) (hw : ∀ c, w c = if 0 < n c then Ideal.exp (X c * (a : EReal) - m) else 0) :
    (∑ j, e j * Ideal.div 1 ((∑ j, e j) + ∑ c, w c * (n c : EReal)) * v j) * (vs : EReal)
        + ∑ c, w c * Ideal.div 1 ((∑ j, e j) + ∑ c, w c * (n c : EReal)) * B c
      = attn a X (total code vis n) (mass code vis B v vs) := by
  have hrel : ∀ c, 0 < total code vis n c → X c * (a : EReal) ≤ m := fun c hc => by
    rcases (total_pos code vis hn c).mp hc with h | ⟨j, hj, rfl⟩
    · exact hC c h
    · exact hJ j hj
  have hatt : ∃ c, 0 < total code vis n c ∧ m = X c * (a : EReal) := by
    rcases hm with ⟨j, hj, h⟩ | ⟨c, hc, h⟩
    · exact ⟨code j, (total_pos code vis hn _).mpr (.inr ⟨j, hj, rfl⟩), h⟩
    · exact ⟨c, (total_pos code vis hn _).mpr (.inl hc), h⟩
  have hzero : (∀ c, 0 < total code vis n c → Ideal.exp (X c * (a : EReal) - m) = 0) →
      Flat X (total code vis n) → _ := fun hz hf => by
    have he0 : ∀ j, e j = 0 := fun j => by
      rw [he]; split_ifs with hj
      · exact hz _ ((total_pos code vis hn _).mpr (.inr ⟨j, hj, rfl⟩))
      · rfl
    have hw0 : ∀ c, w c = 0 := fun c => by
      rw [hw]; split_ifs with hc
      · exact hz _ ((total_pos code vis hn _).mpr (.inl hc))
      · rfl
    show (∑ j, e j * Ideal.div 1 ((∑ j, e j) + ∑ c, w c * (n c : EReal)) * v j) * (vs : EReal)
        + ∑ c, w c * Ideal.div 1 ((∑ j, e j) + ∑ c, w c * (n c : EReal)) * B c
      = attn a X (total code vis n) (mass code vis B v vs)
    rw [attn_flat hf]; simp [he0, hw0]
  induction m with
  | top =>
    refine hzero (fun c _ => exp_sub_top _) ?_
    obtain ⟨c, hc, h⟩ := hatt
    refine .inl ⟨c, hc, ?_⟩
    induction hX : X c with
    | bot => rw [hX, EReal.bot_mul_coe_of_pos ha] at h; exact absurd h (by simp)
    | top => rfl
    | coe r => rw [hX, ← EReal.coe_mul] at h; exact absurd h.symm (EReal.coe_ne_top _)
  | bot =>
    have hb : ∀ c, 0 < total code vis n c → X c * (a : EReal) = ⊥ := fun c hc => le_bot_iff.mp (hrel c hc)
    refine hzero (fun c hc => by rw [hb c hc]; exact exp_bot_sub _) (.inr fun c hc => ?_)
    have h := hb c hc
    induction hX : X c with
    | bot => rfl
    | top => rw [hX, EReal.top_mul_coe_of_pos ha] at h; exact absurd h (by simp)
    | coe r => rw [hX, ← EReal.coe_mul] at h; exact absurd h (EReal.coe_ne_bot _)
  | coe μ =>
    have hnt : ∀ c, 0 < total code vis n c → X c ≠ ⊤ := fun c hc h => by
      have := hrel c hc
      rw [h, EReal.top_mul_coe_of_pos ha] at this
      exact EReal.coe_ne_top μ (top_le_iff.mp this)
    have hf : ¬ Flat X (total code vis n) := by
      rintro (⟨c, hc, h⟩ | h)
      · exact hnt c hc h
      · obtain ⟨c, hc, hx⟩ := hatt
        rw [h c hc, EReal.bot_mul_coe_of_pos ha] at hx
        exact EReal.coe_ne_bot μ hx
    have hS := norm_pos code vis hn a hf
    rw [attn_eq code vis v vs hn hB hf]
    set S := ∑ c, total code vis n c * wt a (X c) with hSdef
    have he' : ∀ j, e j = (((if vis j then wt a (X (code j)) else 0) * Real.exp (-μ) : ℝ) : EReal) := fun j => by
      rw [he]; split_ifs with hj
      · exact exp_score ha (hnt _ ((total_pos code vis hn _).mpr (.inr ⟨j, hj, rfl⟩))) μ
      · simp
    have hw' : ∀ c, w c = (((if 0 < n c then wt a (X c) else 0) * Real.exp (-μ) : ℝ) : EReal) := fun c => by
      rw [hw]; split_ifs with hc
      · exact exp_score ha (hnt _ ((total_pos code vis hn _).mpr (.inl hc))) μ
      · simp
    have hden : (∑ j, e j) + ∑ c, w c * (n c : EReal) = ((S * Real.exp (-μ) : ℝ) : EReal) := by
      simp only [he', hw', ← EReal.coe_mul, ← coe_sum]
      rw [← EReal.coe_add]
      congr 1
      rw [hSdef, sum_total, add_mul, Finset.sum_mul, Finset.sum_mul]
      congr 1
      refine Finset.sum_congr rfl fun c _ => ?_
      split_ifs with hc
      · ring
      · rw [le_antisymm (not_lt.mp hc) (hn c)]; ring
    have hpos : S * Real.exp (-μ) ≠ 0 := (mul_pos hS (Real.exp_pos _)).ne'
    rw [hden, Ideal.div_coe hpos, one_mul]
    rw [← regroup code vis v hvs hn hB (fun c => wt a (X c) / S) fun c => div_nonneg (wt_nonneg a _) hS.le]
    have hx : Real.exp (-μ) ≠ 0 := (Real.exp_pos _).ne'
    refine congrArg₂ (· + ·) (congrArg (· * (vs : EReal)) (Finset.sum_congr rfl fun j _ => ?_))
      (Finset.sum_congr rfl fun c _ => ?_)
    · rw [he', ← EReal.coe_mul]
      congr 1
      split_ifs
      · congr 1; field_simp
      · simp
    · rw [hw', ← EReal.coe_mul]
      by_cases hc : 0 < n c
      · rw [if_pos hc]; congr 2; field_simp
      · rw [hB c (le_antisymm (not_lt.mp hc) (hn c)), mul_zero, mul_zero]

variable {n B vs} in
/-- Attention by powers of two with the logarithm of the counts added to the scores, divided by the sum of all weights
    at the end. -/
theorem ker_attn (hvs : 0 ≤ vs) (hn : ∀ c, 0 ≤ n c) (hB : ∀ c, n c = 0 → B c = 0) {a : ℝ} (ha : 0 < a) (X : C → EReal)
    (G : C → EReal) (hG : ∀ c, G c = X c + if 0 < n c then ((Real.log (n c) / a : ℝ) : EReal) else ⊥)
    (K : J → EReal) (hK : ∀ j, K j = if vis j then X (code j) else ⊥)
    (m : EReal) (hC : ∀ c, G c ≤ m) (hJ : ∀ j, K j ≤ m) (hm : (∃ c, m = G c) ∨ ∃ j, m = K j)
    (hex : ∃ j, vis j)
    (e : C → EReal) (he : ∀ c, e c = Ideal.exp2 ((G c - m) * ((a * (Real.log 2)⁻¹ : ℝ) : EReal)))
    (p : J → EReal) (hp : ∀ j, p j = Ideal.exp2 ((K j - m) * ((a * (Real.log 2)⁻¹ : ℝ) : EReal))) :
    ((∑ c, B c * (if 0 < n c then ((1 / n c : ℝ) : EReal) else 0) * e c) + (∑ j, v j * p j) * (vs : EReal))
        * Ideal.div 1 ((∑ c, e c) + ∑ j, p j)
      = attn a X (total code vis n) (mass code vis B v vs) := by
  have h2 : 0 < Real.log 2 := Real.log_pos (by norm_num)
  have hs : 0 < a * (Real.log 2)⁻¹ := mul_pos ha (inv_pos.mpr h2)
  have hrelC : ∀ c, 0 < n c → 0 < total code vis n c := fun c hc => (total_pos code vis hn _).mpr (.inl hc)
  have hrelJ : ∀ j, vis j → 0 < total code vis n (code j) := fun j hj => (total_pos code vis hn _).mpr (.inr ⟨j, hj, rfl⟩)
  have hzero : (∀ c, e c = 0) → (∀ j, p j = 0) → Flat X (total code vis n) → _ := fun he0 hp0 hf => by
    show ((∑ c, B c * (if 0 < n c then ((1 / n c : ℝ) : EReal) else 0) * e c) + (∑ j, v j * p j) * (vs : EReal))
        * Ideal.div 1 ((∑ c, e c) + ∑ j, p j) = attn a X (total code vis n) (mass code vis B v vs)
    rw [attn_flat hf]; simp [he0, hp0]
  induction m with
  | top =>
    refine hzero (fun c => by rw [he, exp2_top hs]) (fun j => by rw [hp, exp2_top hs]) (.inl ?_)
    rcases hm with ⟨c, h⟩ | ⟨j, h⟩
    · rw [hG] at h
      by_cases hc : 0 < n c
      · refine ⟨c, hrelC c hc, ?_⟩
        rw [if_pos hc] at h
        induction hX : X c with
        | bot => rw [hX, EReal.bot_add] at h; exact absurd h (by simp)
        | top => rfl
        | coe r => rw [hX, ← EReal.coe_add] at h; exact absurd h.symm (EReal.coe_ne_top _)
      · rw [if_neg hc, EReal.add_bot] at h; exact absurd h (by simp)
    · rw [hK] at h
      by_cases hj : vis j
      · rw [if_pos hj] at h; exact ⟨code j, hrelJ j hj, h.symm⟩
      · rw [if_neg hj] at h; exact absurd h (by simp)
  | bot =>
    have hGb : ∀ c, G c = ⊥ := fun c => le_bot_iff.mp (hC c)
    have hKb : ∀ j, K j = ⊥ := fun j => le_bot_iff.mp (hJ j)
    refine hzero (fun c => by rw [he, hGb, exp2_bot hs]) (fun j => by rw [hp, hKb, exp2_bot hs]) (.inr fun c hc => ?_)
    rcases (total_pos code vis hn c).mp hc with h | ⟨j, hj, rfl⟩
    · have hb := hGb c
      rw [hG, if_pos h] at hb
      induction hX : X c with
      | bot => rfl
      | top => rw [hX, EReal.top_add_coe] at hb; exact absurd hb (by simp)
      | coe r => rw [hX, ← EReal.coe_add] at hb; exact absurd hb (EReal.coe_ne_bot _)
    · have hb := hKb j
      rwa [hK, if_pos hj] at hb
  | coe μ =>
    have hnt : ∀ c, 0 < total code vis n c → X c ≠ ⊤ := fun c hc h => by
      rcases (total_pos code vis hn c).mp hc with h' | ⟨j, hj, rfl⟩
      · have := hC c
        rw [hG, if_pos h', h, EReal.top_add_coe] at this
        exact EReal.coe_ne_top μ (top_le_iff.mp this)
      · have := hJ j
        rw [hK, if_pos hj, h] at this
        exact EReal.coe_ne_top μ (top_le_iff.mp this)
    have hf : ¬ Flat X (total code vis n) := by
      rintro (⟨c, hc, h⟩ | h)
      · exact hnt c hc h
      · rcases hm with ⟨c, hx⟩ | ⟨j, hx⟩
        · rw [hG] at hx
          by_cases hc : 0 < n c
          · rw [h c (hrelC c hc), EReal.bot_add] at hx; exact EReal.coe_ne_bot μ hx
          · rw [if_neg hc, EReal.add_bot] at hx; exact EReal.coe_ne_bot μ hx
        · rw [hK] at hx
          by_cases hj : vis j
          · rw [if_pos hj, h _ (hrelJ j hj)] at hx; exact EReal.coe_ne_bot μ hx
          · rw [if_neg hj] at hx; exact EReal.coe_ne_bot μ hx
    have hS := norm_pos code vis hn a hf
    rw [attn_eq code vis v vs hn hB hf]
    set S := ∑ c, total code vis n c * wt a (X c) with hSdef
    set κ := Real.exp (-(a * μ)) with hκ
    have hκ0 : κ ≠ 0 := (Real.exp_pos _).ne'
    have he' : ∀ c, e c = ((n c * (wt a (X c) * κ) : ℝ) : EReal) := fun c => by
      rw [he, hG]
      by_cases hc : 0 < n c
      · rw [if_pos hc]; exact exp2_score ha (hnt c (hrelC c hc)) hc μ
      · rw [if_neg hc, EReal.add_bot, exp2_bot hs, le_antisymm (not_lt.mp hc) (hn c)]; simp
    have hp' : ∀ j, p j = (((if vis j then wt a (X (code j)) else 0) * κ : ℝ) : EReal) := fun j => by
      rw [hp, hK]
      by_cases hj : vis j
      · rw [if_pos hj, if_pos hj]; exact exp2_plain ha (hnt _ (hrelJ j hj)) μ
      · rw [if_neg hj, if_neg hj, exp2_bot hs]; simp
    have hden : (∑ c, e c) + ∑ j, p j = ((S * κ : ℝ) : EReal) := by
      simp only [he', hp', ← coe_sum]
      rw [← EReal.coe_add]
      congr 1
      rw [hSdef, sum_total, add_mul, Finset.sum_mul, Finset.sum_mul, add_comm]
      congr 1
      exact Finset.sum_congr rfl fun c _ => by ring
    have hpos : 0 < S * κ := mul_pos hS (Real.exp_pos _)
    have hi : (0 : ℝ) ≤ 1 / (S * κ) := (one_div_pos.mpr hpos).le
    rw [hden, Ideal.div_coe hpos.ne', one_mul]
    rw [← regroup code vis v hvs hn hB (fun c => wt a (X c) / S) fun c => div_nonneg (wt_nonneg a _) hS.le]
    rw [mul_comm, coe_mul_add hi, add_comm, ← mul_assoc, coe_mul_sum _ hi, coe_mul_sum _ hi]
    refine congrArg₂ (· + ·) (congrArg (· * (vs : EReal)) (Finset.sum_congr rfl fun j _ => ?_))
      (Finset.sum_congr rfl fun c _ => ?_)
    · rw [hp', mul_comm (v j), ← mul_assoc, ← EReal.coe_mul]
      congr 1
      split_ifs
      · congr 1; field_simp
      · simp
    · rw [he']
      by_cases hc : 0 < n c
      · rw [if_pos hc, mul_comm (B c), mul_right_comm, ← mul_assoc, ← EReal.coe_mul, ← EReal.coe_mul]
        congr 2; have := hc.ne'; field_simp
      · rw [hB c (le_antisymm (not_lt.mp hc) (hn c))]; simp

end Split

end Cert.Proof.Attn

end
-- ==== Proof.Count.lean ====
/- The codes' running counts and running sums over a sequence of keys, and how a block's visible keys extend them. -/
module

public import proofs.«01_k».proof.Proof.Attn

@[expose] public section

noncomputable section

namespace Cert.Proof.Count

open Idealize.ShloMosaic Cert.Proof.Attn

variable (cd : ℕ → Fin 384) (v : ℕ → EReal) (vs : ℕ → ℝ) (n0 : Fin 384 → ℝ) (u0 : Fin 384 → EReal)

/-- How often each code has been counted before key `t`. -/
def cnt (t : ℕ) (c : Fin 384) : ℝ := n0 c + ∑ k ∈ Finset.range t, if cd k = c then 1 else 0

/-- The sum of each code's values, each times its block's scale, before key `t`. -/
def sum (t : ℕ) (c : Fin 384) : EReal := u0 c + ∑ k ∈ Finset.range t, if cd k = c then v k * (vs k : EReal) else 0

variable {n0 u0}

/-- Counts stay nonnegative. -/
theorem cnt_nonneg (hn : ∀ c, 0 ≤ n0 c) (t : ℕ) (c : Fin 384) : 0 ≤ cnt cd n0 t c :=
  add_nonneg (hn c) (Finset.sum_nonneg fun k _ => by split_ifs <;> norm_num)

/-- A code not counted yet has sum zero. -/
theorem sum_zero (hn : ∀ c, 0 ≤ n0 c) (hu : ∀ c, n0 c = 0 → u0 c = 0) (t : ℕ) (c : Fin 384) (h : cnt cd n0 t c = 0) :
    sum cd v vs u0 t c = 0 := by
  have h0 : ∀ k ∈ Finset.range t, (0 : ℝ) ≤ if cd k = c then 1 else 0 := fun k _ => by split_ifs <;> norm_num
  have hs := Finset.sum_nonneg h0
  unfold cnt at h
  have hz : ∑ k ∈ Finset.range t, (if cd k = c then (1 : ℝ) else 0) = 0 := by linarith [hn c]
  have hk := (Finset.sum_eq_zero_iff_of_nonneg h0).mp hz
  unfold sum
  rw [hu c (by linarith [hn c]), zero_add]
  refine Finset.sum_eq_zero fun k hkt => if_neg fun e => ?_
  have := hk k hkt
  rw [if_pos e] at this
  exact one_ne_zero this

/-- A sum over the first `o + b` keys is the sum over the first `o` and that over the next block of `b`. -/
theorem range_block {M : Type} [AddCommMonoid M] (f : ℕ → M) (o b : ℕ) :
    ∑ k ∈ Finset.range (o + b), f k = ∑ k ∈ Finset.range o, f k + ∑ j : Fin b, f (o + j.val) := by
  rw [Finset.sum_range_add, ← Fin.sum_univ_eq_sum_range (fun j => f (o + j))]

/-- The sum up to key `r` of a block: the sum before the block, and that over the keys of the block up to `r`. -/
theorem range_visible {M : Type} [AddCommMonoid M] (f : ℕ → M) (o b : ℕ) (r : ℕ) (hr : r < b) :
    ∑ k ∈ Finset.range (o + (r + 1)), f k
      = ∑ k ∈ Finset.range o, f k + ∑ j : Fin b, if j.val ≤ r then f (o + j.val) else 0 := by
  rw [Finset.sum_range_add, Fin.sum_univ_eq_sum_range (fun j => if j ≤ r then f (o + j) else 0)]
  congr 1
  rw [← Finset.sum_filter]
  refine Finset.sum_congr ?_ fun _ _ => rfl
  ext k
  simp only [Finset.mem_range, Finset.mem_filter]
  omega

/-- The counts after one more block of keys. -/
theorem cnt_block (o b : ℕ) (c : Fin 384) :
    cnt cd n0 (o + b) c = cnt cd n0 o c + ∑ j : Fin b, if cd (o + j.val) = c then 1 else 0 := by
  unfold cnt
  rw [range_block, add_assoc]

/-- A nonnegative real factor moves into a sum over the chosen terms. -/
theorem scaled_sum {ι : Type} (s : Finset ι) (p : ι → Prop) [DecidablePred p] (f : ι → EReal) {w : ℝ} (hw : 0 ≤ w) :
    (∑ j ∈ s, if p j then f j else 0) * (w : EReal) = ∑ j ∈ s, if p j then f j * (w : EReal) else 0 := by
  rw [mul_comm, coe_mul_sum s hw]
  refine Finset.sum_congr rfl fun j _ => ?_
  rw [mul_ite, mul_zero, mul_comm]

/-- The sums after one more block of keys under one scale. -/
theorem sum_block (o b : ℕ) (w : ℝ) (hw : 0 ≤ w) (h : ∀ j : Fin b, vs (o + j.val) = w) (c : Fin 384) :
    sum cd v vs u0 (o + b) c
      = sum cd v vs u0 o c + (∑ j : Fin b, if cd (o + j.val) = c then v (o + j.val) else 0) * (w : EReal) := by
  unfold sum
  rw [range_block, ← add_assoc, scaled_sum _ _ _ hw]
  simp only [h]

/-- The counts before a block and the block's visible keys are the counts after the query. -/
theorem total_visible (o b : ℕ) (r : Fin b) :
    total (fun j : Fin b => cd (o + j.val)) (fun j : Fin b => j.val ≤ r.val) (cnt cd n0 o) = cnt cd n0 (o + (r.val + 1)) := by
  funext c
  unfold total cnt
  rw [range_visible _ o b r.val r.isLt, add_assoc]
  simp only [ite_and]

/-- The sums before a block and the block's visible keys are the sums after the query. -/
theorem mass_visible (o b : ℕ) (r : Fin b) (w : ℝ) (h : ∀ j : Fin b, vs (o + j.val) = w) :
    mass (fun j : Fin b => cd (o + j.val)) (fun j : Fin b => j.val ≤ r.val) (sum cd v vs u0 o) (fun j => v (o + j.val)) w
      = sum cd v vs u0 (o + (r.val + 1)) := by
  funext c
  unfold mass sum
  rw [range_visible _ o b r.val r.isLt, ← add_assoc]
  simp only [ite_and, h]

end Cert.Proof.Count
-- ==== Proof.Model.lean ====
/- The recursion of a grid step at `Ideal`: its counts and sums are the running counts and sums of the keys' sequence,
   and its attention output is attention over the counts and sums after the query. -/
module

public import proofs.«01_k».proof.Proof.Pay
public import proofs.«01_k».proof.Proof.Count

@[expose] public section

set_option maxRecDepth 16384

noncomputable section

namespace Cert.Proof.Model

open Cert.KernelIdeal Cert.KernelIdeal.Gen Idealize.ShloMosaic Idealize.ShloMosaic.TcCoe Idealize.SL.Sem
open Cert.Proof.Step Cert.Proof.Pay Cert.Proof.Attn

/-- The step loads the sequences: codes `cd`, values `v`, scales `qr` and `vr` per block of 512, and the counts `n0` and
    sums `u0` before the first key; a code not counted before the first key has sum zero. -/
structure Good (L : Loads Ideal) (cd : ℕ → Fin 384) (v : ℕ → Fin 128 → EReal) (qr vr : ℕ → ℝ) (n0 : Fin 384 → ℝ)
    (u0 : Fin 384 → Fin 128 → EReal) : Prop where
  kc : ∀ (s : ℕ) (k : Fin 256), L.kc s (ix3 0 k 0) = BitVec.ofNat 32 (cd (256 * s + k.val)).val
  kr : ∀ (s : ℕ) (k : Fin 256), L.kr s (ix4 0 0 0 k) = BitVec.ofNat 32 (cd (256 * s + k.val)).val
  hv : ∀ (s : ℕ) (k : Fin 256) (d : Fin 128), L.v s (ix4 0 0 k d) = v (256 * s + k.val) d
  qs : ∀ n, L.qs n = ((qr n : ℝ) : EReal)
  qpos : ∀ n, 0 < qr n
  vs : ∀ n, L.vs n = ((vr n : ℝ) : EReal)
  vnn : ∀ n, 0 ≤ vr n
  hn0 : ∀ c : Fin 384, L.n0 (ix4 0 0 0 c) = ((n0 c : ℝ) : EReal)
  nnn : ∀ c, 0 ≤ n0 c
  hu0 : ∀ (c : Fin 384) (d : Fin 128), L.u0 (ix4 0 0 c d) = u0 c d
  uz : ∀ c d, n0 c = 0 → u0 c d = 0

variable {L : Loads Ideal} {cd : ℕ → Fin 384} {v : ℕ → Fin 128 → EReal} {qr vr : ℕ → ℝ} {n0 : Fin 384 → ℝ}
  {u0 : Fin 384 → Fin 128 → EReal} (g : Good L cd v qr vr n0 u0)
include g

/-- The codes loaded for sub-block `s` are those of its 256 keys. -/
theorem codes : Codes L fun s k => cd (256 * s + k.val) := ⟨g.kc, g.kr⟩

/-- The counts before sub-block `s`. -/
theorem cnt_eq (s : ℕ) (c : Fin 384) : L.cnt s (ix2 0 c) = ((Count.cnt cd n0 (256 * s) c : ℝ) : EReal) := by
  induction s with
  | zero =>
    show k0_pay8 L.n0 (ix2 0 c) = _
    pointwise [k0_pay8]
    rw [g.hn0]
    simp [Count.cnt]
  | succ s ih =>
    rw [cnt_at (codes g), ih, Nat.mul_succ, Count.cnt_block, EReal.coe_add, coe_sum]
    refine congrArg₂ (· + ·) rfl (Finset.sum_congr rfl fun k _ => ?_)
    split_ifs <;> simp

/-- The scale of a key. -/
abbrev vsAt (vr : ℕ → ℝ) (k : ℕ) : ℝ := vr (k / 512)

/-- The value scale of a key of sub-block `s` is that of its block of 512. -/
theorem vs_block (s : ℕ) (j : Fin 256) : vsAt vr (256 * s + j.val) = vr (s / 2) := by
  show vr _ = vr _
  congr 1
  omega

/-- The sum of a code after a sub-block: the sum before, and the scaled sum of the sub-block's values of that code. -/
theorem sum_succ (s : ℕ) (d : Fin 128) (c : Fin 384) :
    Count.sum cd (fun k => v k d) (vsAt vr) (fun c => u0 c d) (256 * (s + 1)) c
      = Count.sum cd (fun k => v k d) (vsAt vr) (fun c => u0 c d) (256 * s) c
        + (∑ k : Fin 256, if (cd (256 * s + k.val)).val = c.val then L.v s (ix4 0 0 k d) else 0) * L.vs (s / 2) := by
  rw [Nat.mul_succ, Count.sum_block cd _ _ _ _ (vr (s / 2)) (g.vnn _) (vs_block g s), g.vs]
  refine congrArg₂ (· + ·) rfl (congrArg₂ (· * ·) (Finset.sum_congr rfl fun k _ => ?_) rfl)
  rw [g.hv]
  simp only [Fin.ext_iff]

/-- The running sums before sub-block `s`, transposed. -/
theorem canon_st (w : View sig .tc .vmem S128x384 .f32) (s : ℕ) (d : Fin 128) (c : Fin 384) :
    View.canon (L.st w s) (ix2 d c) = Count.sum cd (fun k => v k d) (vsAt vr) (fun c => u0 c d) (256 * s) c := by
  induction s generalizing c with
  | zero =>
    refine (congrFun (View.canon_unit_zero (Val := Elt Ideal) (e := .f32) (S := S128x384)
      (off := ![0, 0]) (funext fun a => by fin_cases a <;> rfl) inb_S128x384_S128x384_0_0 (k0_pay7 L.u0)) (ix2 d c)).trans ?_
    pointwise [k0_pay7]
    rw [g.hu0]
    simp [Count.sum]
  | succ s ih =>
    rw [sum_succ g]
    by_cases h : c.val < 256
    · have e : ix2 d c = loRect.emb (ix2 d (⟨c.val, h⟩ : Fin 256)) := by
        funext a; apply Fin.ext
        match a with
        | ⟨0, _⟩ => show d.val = 0 + 1 * d.val; omega
        | ⟨1, _⟩ => show c.val = 0 + 1 * c.val; omega
      refine (View.canon_cons_of_not_mem _ _ ?_).trans ?_
      · intro hm
        have hx := (Rect.mem_set_unit (inb := inb_S128x384_S128x128_0_256)).mp hm
        have : 256 ≤ c.val := (hx (1 : Fin 2)).1
        omega
      · refine (congrArg _ e).trans ((View.canon_cons_emb loRect _ _ _).trans ?_)
        pointwise [k0_pay30]
        refine congrArg₂ (· + ·) ?_ (congrArg₂ (· * ·) ?_ rfl)
        · rw [View.readCov_eq_canon']
          exact (congrArg (View.canon (L.st w s)) e.symm).trans (ih c)
        · exact pay29_lo (codes g) s d ⟨c.val, h⟩
    · have e : ix2 d c = hiRect.emb (ix2 d (⟨c.val - 256, by omega⟩ : Fin 128)) := by
        funext a; apply Fin.ext
        match a with
        | ⟨0, _⟩ => show d.val = 0 + 1 * d.val; omega
        | ⟨1, _⟩ => show c.val = 256 + 1 * (c.val - 256); omega
      refine (congrArg _ e).trans ((View.canon_cons_emb hiRect _ _ _).trans ?_)
      pointwise [k0_pay31]
      refine congrArg₂ (· + ·) ?_ (congrArg₂ (· * ·) ?_ rfl)
      · rw [View.readCov_eq_canon']
        refine (congrArg (View.canon (L.loStep w s (L.st w s))) e.symm).trans
          ((View.canon_cons_of_not_mem _ _ ?_).trans (ih c))
        intro hm
        have hx := (Rect.mem_set_unit (inb := inb_S128x384_S128x256_0_0)).mp hm
        have : c.val < 0 + 256 := (hx (1 : Fin 2)).2
        omega
      · refine (pay29_hi (codes g) s d ⟨c.val - 256, by omega⟩).trans (Finset.sum_congr rfl fun k _ => ?_)
        refine if_congr ?_ rfl rfl
        show (cd (256 * s + k.val)).val = 256 + (c.val - 256) ↔ _
        omega

/-- The running sums before sub-block `s`, as the step loads them. -/
theorem sums_eq (w : View sig .tc .vmem S128x384 .f32) (s : ℕ) (d : Fin 128) (c : Fin 384) :
    w.readCov (L.st w s) allRect.toLoadRect (ix2 d c)
      = Count.sum cd (fun k => v k d) (vsAt vr) (fun c => u0 c d) (256 * s) c := by
  rw [View.readCov_eq_canon']
  refine (congrArg (View.canon (L.st w s)) ?_).trans (canon_st g w s d c)
  funext a; apply Fin.ext
  match a with
  | ⟨0, _⟩ => show 0 + 1 * d.val = d.val; omega
  | ⟨1, _⟩ => show 0 + 1 * c.val = c.val; omega

/-- The factor of the exponents. -/
theorem scale_eq (n : ℕ) : L.scale n = ((qr n * (Real.sqrt 128)⁻¹ * (Real.log 2)⁻¹ : ℝ) : EReal) := by
  show L.qs n * Named.named (F := Ideal) (φ := .f32) κ "score_scale_log2e" 0x3E0293EE#32 = _
  rw [g.qs, score_val, ← EReal.coe_mul, mul_assoc]

omit g in
/-- Every entry is at most the running maximum. -/
theorem fold_le {n : ℕ} (f : Fin n → EReal) (c : Fin n) : f c ≤ Finset.univ.fold max ⊥ f :=
  Finset.le_sup (f := f) (Finset.mem_univ c)

omit g in
/-- The running maximum is one of the entries. -/
theorem fold_att {n : ℕ} [Nonempty (Fin n)] (f : Fin n → EReal) : ∃ c, Finset.univ.fold max ⊥ f = f c := by
  obtain ⟨c, _, h⟩ := Finset.exists_mem_eq_sup (Finset.univ : Finset (Fin n)) Finset.univ_nonempty f
  exact ⟨c, h⟩

/-- The attention output of sub-block `s` at query `r`: attention over the counts and sums after the query. -/
theorem out_eq (w : View sig .tc .vmem S128x384 .f32) (s : ℕ) (r : Fin 256) (d : Fin 128) :
    L.out w s (ix3 0 r d)
      = attn (qr (s / 2) * (Real.sqrt 128)⁻¹) (fun c => ∑ x : Fin 128, L.cb (ix3 0 c x) * L.q s (ix4 0 0 r x))
          (Count.cnt cd n0 (256 * s + (r.val + 1)))
          (Count.sum cd (fun k => v k d) (vsAt vr) (fun c => u0 c d) (256 * s + (r.val + 1))) := by
  have ha : 0 < qr (s / 2) * (Real.sqrt 128)⁻¹ := mul_pos (g.qpos _) (inv_pos.mpr (Real.sqrt_pos.mpr (by norm_num)))
  have h2 : 0 < Real.log 2 := Real.log_pos (by norm_num)
  have hn := Count.cnt_nonneg cd g.nnn (256 * s)
  have hG : ∀ c : Fin 384, L.codeScoreOf s (L.cnt s) (ix2 c r)
      = (∑ x : Fin 128, L.cb (ix3 0 c x) * L.q s (ix4 0 0 r x))
        + if 0 < Count.cnt cd n0 (256 * s) c then
            ((Real.log (Count.cnt cd n0 (256 * s) c) / (qr (s / 2) * (Real.sqrt 128)⁻¹) : ℝ) : EReal) else ⊥ := fun c => by
    refine codeScore_at s (L.cnt s) c r _ ?_ ?_
    · rw [cnt_eq g, scale_eq g]
      by_cases h : 0 < Count.cnt cd n0 (256 * s) c
      · have hs : qr (s / 2) * (Real.sqrt 128)⁻¹ * (Real.log 2)⁻¹ ≠ 0 := (mul_pos ha (inv_pos.mpr h2)).ne'
        rw [if_pos h, if_pos (by exact_mod_cast h), Ideal.div_coe hs, one_mul]
        have hl : Ideal.log ((Count.cnt cd n0 (256 * s) c : ℝ) : EReal) = ((Real.log (Count.cnt cd n0 (256 * s) c) : ℝ) : EReal) := by
          show (if Count.cnt cd n0 (256 * s) c ≤ 0 then (⊥ : EReal) else ((Real.log (Count.cnt cd n0 (256 * s) c) : ℝ) : EReal)) = _
          rw [if_neg (not_le.mpr h)]
        rw [hl, ← EReal.coe_mul, ← EReal.coe_mul]
        congr 1
        have := ha.ne'
        field_simp
      · rw [if_neg h, if_neg (by exact_mod_cast h)]
    · by_cases h : 0 < Count.cnt cd n0 (256 * s) c
      · rw [if_pos h, ← EReal.coe_sub, ← EReal.coe_sub, ← EReal.coe_add, ← EReal.coe_add]
        congr 1; ring
      · rw [if_neg h]; rfl
  have hK : ∀ j : Fin 256, L.keyScore s (ix2 j r) = if j.val ≤ r.val then
      (fun c => ∑ x : Fin 128, L.cb (ix3 0 c x) * L.q s (ix4 0 0 r x)) (cd (256 * s + j.val)) else ⊥ := fun j =>
    keyScore_at (codes g) s j r
  have hm := top_at (L := L) s (L.cnt s) r
  rw [← Count.total_visible cd (256 * s) 256 r,
    ← Count.mass_visible cd (fun k => v k d) (vsAt vr) (256 * s) 256 r (vr (s / 2)) (vs_block g s)]
  refine Eq.trans ?_ (ker_attn (fun j : Fin 256 => cd (256 * s + j.val)) (fun j : Fin 256 => j.val ≤ r.val)
    (fun j : Fin 256 => v (256 * s + j.val) d) (g.vnn (s / 2)) hn
    (Count.sum_zero cd _ _ g.nnn (fun c => g.uz c d) (256 * s)) ha
    (fun c => ∑ x : Fin 128, L.cb (ix3 0 c x) * L.q s (ix4 0 0 r x))
    (fun c => L.codeScoreOf s (L.cnt s) (ix2 c r)) hG (fun j => L.keyScore s (ix2 j r)) hK
    (L.topOf s (L.cnt s) (ix2 0 r))
    (fun c => by rw [hm]; exact (fold_le (fun c : Fin 384 => L.codeScoreOf s (L.cnt s) (ix2 c r)) c).trans (le_max_left _ _))
    (fun j => by rw [hm]; exact (fold_le (fun j : Fin 256 => L.keyScore s (ix2 j r)) j).trans (le_max_right _ _))
    ?_ ⟨r, le_rfl⟩ _ (fun c => rfl) _ (fun j => rfl))
  · show L.outOf w s (L.cnt s) (L.st w s) (ix3 0 r d) = _
    rw [out_at, scale_eq g, g.vs]
    refine congrArg₂ (· * ·) (congrArg₂ (· + ·) (Finset.sum_congr rfl fun c _ => ?_)
      (congrArg₂ (· * ·) (Finset.sum_congr rfl fun j _ => ?_) rfl)) rfl
    · rw [mean_at, sums_eq g, cnt_eq g]
      refine congrArg₂ (· * ·) (congrArg₂ (· * ·) rfl ?_) rfl
      by_cases h : 0 < Count.cnt cd n0 (256 * s) c
      · rw [if_pos h, if_pos (by exact_mod_cast h), Ideal.div_coe h.ne', one_mul]
      · rw [if_neg h, if_neg (by exact_mod_cast h)]
    · rw [g.hv]
  · rw [hm]
    rcases max_choice (Finset.univ.fold max ⊥ fun c : Fin 384 => L.codeScoreOf s (L.cnt s) (ix2 c r))
      (Finset.univ.fold max ⊥ fun j : Fin 256 => L.keyScore s (ix2 j r)) with h | h
    · rw [h]; exact .inl (fold_att (fun c : Fin 384 => L.codeScoreOf s (L.cnt s) (ix2 c r)))
    · rw [h]; exact .inr (fold_att (fun j : Fin 256 => L.keyScore s (ix2 j r)))

/-- The counts a step leaves. -/
theorem cnt_final (c : Fin 384) : k0_pay2 (L.cnt 8) (ix4 0 0 0 c) = ((Count.cnt cd n0 2048 c : ℝ) : EReal) := by
  pointwise [k0_pay2]
  exact cnt_eq g 8 c

/-- The sums a step leaves. -/
theorem sum_final (w : View sig .tc .vmem S128x384 .f32) (c : Fin 384) (d : Fin 128) :
    k0_pay1 (w.readCov (L.st w 8) allRect.toLoadRect) (ix4 0 0 c d)
      = Count.sum cd (fun k => v k d) (vsAt vr) (fun c => u0 c d) 2048 c := by
  pointwise [k0_pay1]
  exact sums_eq g w 8 d c

end Cert.Proof.Model
-- ==== Proof.Seq.lean ====
/- The arguments of the two programs as sequences over the keys of one head, and what the results are in terms of them. -/
module

public import proofs.«01_k».proof.Proof.Model

@[expose] public section

set_option maxRecDepth 16384

noncomputable section

namespace Cert.Proof

open Idealize.ShloMosaic Idealize.ShloMosaic.TcCoe Idealize.SL.Sem

/-- The eight arguments as arrays of extended reals and of words. -/
structure Args where
  q : (⟨4, ![24, 2048, 8, 128]⟩ : Shape).Idx → EReal
  qs : (⟨3, ![24, 4, 8]⟩ : Shape).Idx → EReal
  kc : (⟨3, ![24, 2048, 8]⟩ : Shape).Idx → BitVec 32
  cb : (⟨3, ![8, 384, 128]⟩ : Shape).Idx → EReal
  v : (⟨4, ![24, 2048, 8, 128]⟩ : Shape).Idx → EReal
  vs : (⟨3, ![24, 4, 8]⟩ : Shape).Idx → EReal
  u0 : (⟨4, ![24, 8, 384, 128]⟩ : Shape).Idx → EReal
  n0 : (⟨3, ![24, 8, 384]⟩ : Shape).Idx → EReal

namespace Args

/-- What the precondition says of them. -/
structure Sane (A : Args) : Prop where
  qs : ∀ i, ∃ r : ℝ, 0 < r ∧ A.qs i = (r : EReal)
  vs : ∀ i, ∃ r : ℝ, 0 ≤ r ∧ A.vs i = (r : EReal)
  kc : ∀ i, (A.kc i).toNat < 384
  n0 : ∀ i, ∃ r : ℝ, 0 ≤ r ∧ A.n0 i = (r : EReal)
  u0 : ∀ t h c d, A.n0 (ix3 t h c) = 0 → A.u0 (ix4 t h c d) = 0

variable (A : Args) (t : Fin 24) (h : Fin 8)

/-- Position `k` of the sequence. -/
def pos (k : ℕ) : Fin 2048 := ⟨k % 2048, Nat.mod_lt _ (by norm_num)⟩

/-- Block `n` of the sequence. -/
def blk (n : ℕ) : Fin 4 := ⟨n % 4, Nat.mod_lt _ (by norm_num)⟩

/-- The code of key `k`. -/
def cd (k : ℕ) : Fin 384 := ⟨(A.kc (ix3 t (pos k) h)).toNat % 384, Nat.mod_lt _ (by norm_num)⟩

/-- The value of key `k`. -/
def vd (k : ℕ) (d : Fin 128) : EReal := A.v (ix4 t (pos k) h d)

/-- The scale of the queries of block `n`. -/
def qr (n : ℕ) : ℝ := (A.qs (ix3 t (blk n) h)).toReal

/-- The scale of the values of block `n`. -/
def vr (n : ℕ) : ℝ := (A.vs (ix3 t (blk n) h)).toReal

/-- The count of code `c` before the first key. -/
def nr (c : Fin 384) : ℝ := (A.n0 (ix3 t h c)).toReal

/-- The sum of code `c` before the first key. -/
def ur (c : Fin 384) (d : Fin 128) : EReal := A.u0 (ix4 t h c d)

/-- The count of code `c` before key `p`. -/
def cnt (p : ℕ) (c : Fin 384) : ℝ := Count.cnt (A.cd t h) (A.nr t h) p c

/-- The sum of code `c` before key `p`. -/
def sum (d : Fin 128) (p : ℕ) (c : Fin 384) : EReal :=
  Count.sum (A.cd t h) (fun k => A.vd t h k d) (Model.vsAt (A.vr t h)) (fun c => A.ur t h c d) p c

/-- The score of query `i` and code `c`, before its scale. -/
def dot (i : Fin 2048) (c : Fin 384) : EReal := ∑ x : Fin 128, A.cb (ix3 h c x) * A.q (ix4 t i h x)

/-- The attention output of query `i`. -/
def att (i : Fin 2048) (d : Fin 128) : EReal :=
  Attn.attn (A.qr t h (i.val / 512) * (Real.sqrt 128)⁻¹) (A.dot t h i) (A.cnt t h (i.val + 1)) (A.sum t h d (i.val + 1))

variable {A} (g : A.Sane)
include g

/-- A key's code is a word below 384. -/
theorem kc_eq (i) : A.kc i = BitVec.ofNat 32 ((A.kc i).toNat % 384) := by
  rw [Nat.mod_eq_of_lt (g.kc i)]; simp

/-- The query scales are real. -/
theorem qs_eq (n : ℕ) : A.qs (ix3 t (blk n) h) = ((A.qr t h n : ℝ) : EReal) := by
  obtain ⟨r, _, e⟩ := g.qs (ix3 t (blk n) h)
  unfold qr; rw [e]; rfl

/-- The query scales are positive. -/
theorem qr_pos (n : ℕ) : 0 < A.qr t h n := by
  obtain ⟨r, hr, e⟩ := g.qs (ix3 t (blk n) h)
  unfold qr; rw [e]; exact hr

/-- The value scales are real. -/
theorem vs_eq (n : ℕ) : A.vs (ix3 t (blk n) h) = ((A.vr t h n : ℝ) : EReal) := by
  obtain ⟨r, _, e⟩ := g.vs (ix3 t (blk n) h)
  unfold vr; rw [e]; rfl

/-- The value scales are not negative. -/
theorem vr_nn (n : ℕ) : 0 ≤ A.vr t h n := by
  obtain ⟨r, hr, e⟩ := g.vs (ix3 t (blk n) h)
  unfold vr; rw [e]; exact hr

/-- The initial counts are real. -/
theorem n0_eq (c : Fin 384) : A.n0 (ix3 t h c) = ((A.nr t h c : ℝ) : EReal) := by
  obtain ⟨r, _, e⟩ := g.n0 (ix3 t h c)
  unfold nr; rw [e]; rfl

/-- The initial counts are not negative. -/
theorem nr_nn (c : Fin 384) : 0 ≤ A.nr t h c := by
  obtain ⟨r, hr, e⟩ := g.n0 (ix3 t h c)
  unfold nr; rw [e]; exact hr

/-- A code counted zero times has sum zero. -/
theorem ur_zero (c : Fin 384) (d : Fin 128) (hc : A.nr t h c = 0) : A.ur t h c d = 0 :=
  g.u0 t h c d (by rw [n0_eq t h g, hc]; rfl)

omit g in
/-- A position below 2048 is its own place. -/
theorem pos_val (i : Fin 2048) : pos i.val = i := Fin.ext (Nat.mod_eq_of_lt i.isLt)

omit g in
/-- A block number below four is its own block. -/
theorem blk_val (n : Fin 4) : blk n.val = n := Fin.ext (Nat.mod_eq_of_lt n.isLt)

end Args

end Cert.Proof
-- ==== Proof.Blocks.lean ====
/- The blocks of the arguments that one grid step of the kernel reads. -/
module

public import proofs.«01_k».proof.Proof.Seq
public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.Proof

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The arguments of the kernel in the memory `m`. -/
def argsOf : Args where
  q := m ((c.tc : Thread nD τ).loc main_arg0)
  qs := m ((c.tc : Thread nD τ).loc main_arg1)
  kc := m ((c.tc : Thread nD τ).loc main_arg2)
  cb := m ((c.tc : Thread nD τ).loc main_arg3)
  v := m ((c.tc : Thread nD τ).loc main_arg4)
  vs := m ((c.tc : Thread nD τ).loc main_arg5)
  u0 := m ((c.tc : Thread nD τ).loc main_arg6)
  n0 := m ((c.tc : Thread nD τ).loc main_arg7)

/-- The sequence a grid step works on. -/
def row (t : Fin cfg0.N) : Fin 24 := ⟨(grid0.coords t 0).val, (grid0.coords t 0).isLt⟩

/-- The head a grid step works on. -/
def head (t : Fin cfg0.N) : Fin 8 := ⟨(grid0.coords t 1).val, (grid0.coords t 1).isLt⟩

/-- Where the input blocks of a grid step lie. -/
theorem kidx : ∀ t : Fin cfg0.N, win0_0.index t = ![0, 0] ∧ win0_1.index t = ![0, 0]
    ∧ win0_2.index t = ![(grid0.coords t 0).val, (grid0.coords t 1).val, 0, 0]
    ∧ win0_3.index t = ![(grid0.coords t 0).val * 8 + (grid0.coords t 1).val, 0, 0]
    ∧ win0_4.index t = ![(grid0.coords t 0).val, (grid0.coords t 1).val, 0, 0]
    ∧ win0_5.index t = ![(grid0.coords t 1).val, 0, 0]
    ∧ win0_6.index t = ![(grid0.coords t 0).val, (grid0.coords t 1).val, 0, 0]
    ∧ win0_7.index t = ![(grid0.coords t 0).val, (grid0.coords t 1).val, 0, 0]
    ∧ win0_8.index t = ![(grid0.coords t 0).val, (grid0.coords t 1).val, 0, 0] :=
  (by decide +kernel : ∀ t : Fin grid0.N, _)

/-- Where the output blocks of a grid step lie. -/
theorem kidx_out : ∀ t : Fin cfg0.N, win0_9.index t = ![(grid0.coords t 0).val, 0, (grid0.coords t 1).val]
    ∧ win0_10.index t = ![(grid0.coords t 0).val, (grid0.coords t 1).val, 0, 0]
    ∧ win0_11.index t = ![(grid0.coords t 0).val, (grid0.coords t 1).val, 0, 0] :=
  (by decide +kernel : ∀ t : Fin grid0.N, _)

variable (t : Fin cfg0.N)

/-- The scales of the queries. -/
theorem blk0 (b : Fin 24) (j : Fin 32) : (iblk m c 0 t : S24x32.Idx → EReal) (ix2 b j)
    = (argsOf m c).qs (ix3 b ⟨j.val / 8, by omega⟩ ⟨j.val % 8, by omega⟩) := by
  have e : ((cfg0.win 0).blk t).view.emb (ix2 b j) = ix2 b j := by blk_ext [kidx t, row, head]
  show V m c main_v5 (((cfg0.win 0).blk t).view.emb (ix2 b j)) = _
  refine (congrArg _ e).trans ?_
  entry_read
  pointwise
  rfl

/-- The scales of the values. -/
theorem blk1 (b : Fin 24) (j : Fin 32) : (iblk m c 1 t : S24x32.Idx → EReal) (ix2 b j)
    = (argsOf m c).vs (ix3 b ⟨j.val / 8, by omega⟩ ⟨j.val % 8, by omega⟩) := by
  have e : ((cfg0.win 1).blk t).view.emb (ix2 b j) = ix2 b j := by blk_ext [kidx t, row, head]
  show V m c main_v6 (((cfg0.win 1).blk t).view.emb (ix2 b j)) = _
  refine (congrArg _ e).trans ?_
  entry_read
  pointwise
  rfl

/-- The queries. -/
theorem blk2 (r : Fin 2048) (x : Fin 128) : (iblk m c 2 t : S1x1x2048x128.Idx → EReal) (ix4 0 0 r x)
    = (argsOf m c).q (ix4 (row t) r (head t) x) := by
  have e : ((cfg0.win 2).blk t).view.emb (ix4 0 0 r x) = ix4 (row t) (head t) r x := by blk_ext [kidx t, row, head]
  show V m c main_v0 (((cfg0.win 2).blk t).view.emb (ix4 0 0 r x)) = _
  refine (congrArg _ e).trans ?_
  entry_read
  pointwise
  rfl

/-- The codes, as a column. -/
theorem blk3 (r : Fin 2048) : (iblk m c 3 t : S1x2048x1.Idx → BitVec 32) (ix3 0 r 0)
    = (argsOf m c).kc (ix3 (row t) r (head t)) := by
  have e : ((cfg0.win 3).blk t).view.emb (ix3 0 r 0) = ix3 ⟨(row t).val * 8 + (head t).val, by have := (row t).isLt; have := (head t).isLt; omega⟩ r 0 := by blk_ext [kidx t, row, head]
  show V m c main_v4 (((cfg0.win 3).blk t).view.emb (ix3 0 r 0)) = _
  refine (congrArg _ e).trans ?_
  entry_read
  pointwise
  rfl

/-- The codes, as a row. -/
theorem blk4 (r : Fin 2048) : (iblk m c 4 t : S1x1x1x2048.Idx → BitVec 32) (ix4 0 0 0 r)
    = (argsOf m c).kc (ix3 (row t) r (head t)) := by
  have e : ((cfg0.win 4).blk t).view.emb (ix4 0 0 0 r) = ix4 (row t) (head t) 0 r := by blk_ext [kidx t, row, head]
  show V m c main_v3 (((cfg0.win 4).blk t).view.emb (ix4 0 0 0 r)) = _
  refine (congrArg _ e).trans ?_
  entry_read
  pointwise
  rfl

/-- The codebook. -/
theorem blk5 (k : Fin 384) (x : Fin 128) : (iblk m c 5 t : S1x384x128.Idx → EReal) (ix3 0 k x)
    = (argsOf m c).cb (ix3 (head t) k x) := by
  have e : ((cfg0.win 5).blk t).view.emb (ix3 0 k x) = ix3 (head t) k x := by blk_ext [kidx t, row, head]
  show V m c main_arg3 (((cfg0.win 5).blk t).view.emb (ix3 0 k x)) = _
  refine (congrArg _ e).trans ?_
  entry_read
  pointwise
  rfl

/-- The values. -/
theorem blk6 (r : Fin 2048) (x : Fin 128) : (iblk m c 6 t : S1x1x2048x128.Idx → EReal) (ix4 0 0 r x)
    = (argsOf m c).v (ix4 (row t) r (head t) x) := by
  have e : ((cfg0.win 6).blk t).view.emb (ix4 0 0 r x) = ix4 (row t) (head t) r x := by blk_ext [kidx t, row, head]
  show V m c main_v1 (((cfg0.win 6).blk t).view.emb (ix4 0 0 r x)) = _
  refine (congrArg _ e).trans ?_
  entry_read
  pointwise
  rfl

/-- The sums before the first key. -/
theorem blk7 (k : Fin 384) (x : Fin 128) : (iblk m c 7 t : S1x1x384x128.Idx → EReal) (ix4 0 0 k x)
    = (argsOf m c).u0 (ix4 (row t) (head t) k x) := by
  have e : ((cfg0.win 7).blk t).view.emb (ix4 0 0 k x) = ix4 (row t) (head t) k x := by blk_ext [kidx t, row, head]
  show V m c main_arg6 (((cfg0.win 7).blk t).view.emb (ix4 0 0 k x)) = _
  refine (congrArg _ e).trans ?_
  entry_read
  pointwise
  rfl

/-- The counts before the first key. -/
theorem blk8 (k : Fin 384) : (iblk m c 8 t : S1x1x1x384.Idx → EReal) (ix4 0 0 0 k)
    = (argsOf m c).n0 (ix3 (row t) (head t) k) := by
  have e : ((cfg0.win 8).blk t).view.emb (ix4 0 0 0 k) = ix4 (row t) (head t) 0 k := by blk_ext [kidx t, row, head]
  show V m c main_v7 (((cfg0.win 8).blk t).view.emb (ix4 0 0 0 k)) = _
  refine (congrArg _ e).trans ?_
  entry_read
  pointwise
  rfl

end Cert.Proof
-- ==== Proof.Step.lean ====
/- One grid step of the idealized kernel leaves in its three output blocks what the recursion over the sub-blocks says. -/
module

public import proofs.«01_k».proof.Proof.Loads

@[expose] public section

set_option maxRecDepth 16384
set_option maxHeartbeats 4000000

noncomputable section

namespace Cert.Proof.Step

open Cert.KernelIdeal Cert.KernelIdeal.Gen Idealize.ShloMosaic Idealize.ShloMosaic.TcCoe Idealize.SL.Sem

variable {F : FTy → Type} [FloatOps F] [Named F]

section Run

variable (c : Dev nD) (i : grid0.Coords) (arg2 : Memref sig .tc .smem S24x32 .f32) (harg2 : arg2.IsWhole) (arg3 : Memref sig .tc .smem S24x32 .f32) (harg3 : arg3.IsWhole) (arg4 : Memref sig .tc .vmem S1x1x2048x128 .fp8e4m3) (harg4 : arg4.IsWhole) (arg5 : Memref sig .tc .vmem S1x2048x1 .i32) (harg5 : arg5.IsWhole) (arg6 : Memref sig .tc .vmem S1x1x1x2048 .i32) (harg6 : arg6.IsWhole) (arg7 : Memref sig .tc .vmem S1x384x128 .bf16) (harg7 : arg7.IsWhole) (arg8 : Memref sig .tc .vmem S1x1x2048x128 .fp8e4m3) (harg8 : arg8.IsWhole) (arg9 : Memref sig .tc .vmem S1x1x384x128 .f32) (harg9 : arg9.IsWhole) (arg10 : Memref sig .tc .vmem S1x1x1x384 .f32) (harg10 : arg10.IsWhole) (arg11 : Memref sig .tc .vmem S1x2048x128 .bf16) (harg11 : arg11.IsWhole) (arg12 : Memref sig .tc .vmem S1x1x384x128 .f32) (harg12 : arg12.IsWhole) (arg13 : Memref sig .tc .vmem S1x1x1x384 .f32) (harg13 : arg13.IsWhole) (arg14 : Memref sig .tc .vmem S128x384 .f32) (harg14 : arg14.IsWhole)
    (x0 : Vec F S24x32 .f32) (x1 : Vec F S24x32 .f32) (x2 : Vec F S1x1x2048x128 .fp8e4m3) (x3 : Vec F S1x2048x1 .i32) (x4 : Vec F S1x1x1x2048 .i32) (x5 : Vec F S1x384x128 .bf16) (x6 : Vec F S1x1x2048x128 .fp8e4m3) (x7 : Vec F S1x1x384x128 .f32) (x8 : Vec F S1x1x1x384 .f32)

/-- The rows of a sub-block lie within the queries and within the values. -/
theorem inbRows (s : ℕ) : ∀ a, (![0, 0, 256 * (s % 8), 0] : Fin 4 → Nat) a + S1x1x256x128.size a ≤ S1x1x2048x128.size a := by
  intro a
  match a with
  | ⟨0, _⟩ => show 0 + 1 ≤ 1; omega
  | ⟨1, _⟩ => show 0 + 1 ≤ 1; omega
  | ⟨2, _⟩ => show 256 * (s % 8) + 256 ≤ 2048; omega
  | ⟨3, _⟩ => show 0 + 128 ≤ 128; omega

/-- The keys of a sub-block lie within the column of codes. -/
theorem inbCol (s : ℕ) : ∀ a, (![0, 256 * (s % 8), 0] : Fin 3 → Nat) a + S1x256x1.size a ≤ S1x2048x1.size a := by
  intro a
  match a with
  | ⟨0, _⟩ => show 0 + 1 ≤ 1; omega
  | ⟨1, _⟩ => show 256 * (s % 8) + 256 ≤ 2048; omega
  | ⟨2, _⟩ => show 0 + 1 ≤ 1; omega

/-- The keys of a sub-block lie within the row of codes. -/
theorem inbRow (s : ℕ) : ∀ a, (![0, 0, 0, 256 * (s % 8)] : Fin 4 → Nat) a + S1x1x1x256.size a ≤ S1x1x1x2048.size a := by
  intro a
  match a with
  | ⟨0, _⟩ => show 0 + 1 ≤ 1; omega
  | ⟨1, _⟩ => show 0 + 1 ≤ 1; omega
  | ⟨2, _⟩ => show 0 + 1 ≤ 1; omega
  | ⟨3, _⟩ => show 256 * (s % 8) + 256 ≤ 2048; omega

/-- The loads of the run from the buffers' contents. -/
def loads : Loads F where
  qs n := View.readAt (Elt F) arg2.view (Rect.unit (k0_off1 i (BitVec.ofNat 32 (8 * (n % 4)))) S1x1.size
    (k0_off1_inb i ⟨n % 4, Nat.mod_lt _ (by decide)⟩) : Rect S24x32).toLoadRect (harg2.unread x0) (Shape.Idx.first (by decide : 0 < S1x1.numel))
  vs n := View.readAt (Elt F) arg3.view (Rect.unit (k0_off1 i (BitVec.ofNat 32 (8 * (n % 4)))) S1x1.size
    (k0_off1_inb i ⟨n % 4, Nat.mod_lt _ (by decide)⟩) : Rect S24x32).toLoadRect (harg3.unread x1) (Shape.Idx.first (by decide : 0 < S1x1.numel))
  q s := View.readAt (Elt F) arg4.view (Rect.unit ![0, 0, 256 * (s % 8), 0] S1x1x256x128.size (inbRows s) : Rect S1x1x2048x128).toLoadRect (harg4.unread x2)
  kc s := View.readAt (Elt F) arg5.view (Rect.unit ![0, 256 * (s % 8), 0] S1x256x1.size (inbCol s) : Rect S1x2048x1).toLoadRect (harg5.unread x3)
  kr s := View.readAt (Elt F) arg6.view (Rect.unit ![0, 0, 0, 256 * (s % 8)] S1x1x1x256.size (inbRow s) : Rect S1x1x1x2048).toLoadRect (harg6.unread x4)
  v s := View.readAt (Elt F) arg8.view (Rect.unit ![0, 0, 256 * (s % 8), 0] S1x1x256x128.size (inbRows s) : Rect S1x1x2048x128).toLoadRect (harg8.unread x6)
  cb := View.readAt (Elt F) arg7.view (Rect.unit ![0, 0, 0] S1x384x128.size inb_S1x384x128_S1x384x128_0_0_0).toLoadRect (harg7.unread x5)
  u0 := View.readAt (Elt F) arg9.view (Rect.unit ![0, 0, 0, 0] S1x1x384x128.size inb_S1x1x384x128_S1x1x384x128_0_0_0_0).toLoadRect (harg9.unread x7)
  n0 := View.readAt (Elt F) arg10.view (Rect.unit ![0, 0, 0, 0] S1x1x1x384.size inb_S1x1x1x384_S1x1x1x384_0_0_0_0).toLoadRect (harg10.unread x8)

/-! The running counts and sums the run names are those of the recursion, sub-block by sub-block. -/

/-- The counts before the first sub-block. -/
theorem counts0 : kernelRun0_A.sl.r_4 c arg10 harg10 x8 = (loads i arg2 harg2 arg3 harg3 arg4 harg4 arg5 harg5 arg6 harg6 arg7 harg7 arg8 harg8 arg9 harg9 arg10 harg10 x0 x1 x2 x3 x4 x5 x6 x7 x8).cnt 0 := (rfl)

/-- The counts after sub-block 0. -/
theorem counts1 : kernelRun0_A.sl.r_16 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cnt 1 := (show kernelRun0_A.sl.r_16 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cntStep 0 (kernelRun0_A.sl.r_4 c arg10 harg10 x8) from (rfl)).trans
  (congrArg ((loads i arg2 harg2 arg3 harg3 arg4 harg4 arg5 harg5 arg6 harg6 arg7 harg7 arg8 harg8 arg9 harg9 arg10 harg10 x0 x1 x2 x3 x4 x5 x6 x7 x8).cntStep 0) (counts0 c i arg2 harg2 arg3 harg3 arg4 harg4 arg5 harg5 arg6 harg6 arg7 harg7 arg8 harg8 arg9 harg9 arg10 harg10 x0 x1 x2 x3 x4 x5 x6 x7 x8))

/-- The counts after sub-block 1. -/
theorem counts2 : kernelRun0_A.sl.r_32 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cnt 2 := (show kernelRun0_A.sl.r_32 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cntStep 1 (kernelRun0_A.sl.r_16 c arg5 harg5 arg6 harg6 arg8 harg8 arg10 harg10 x3 x4 x6 x8) from (rfl)).trans
  (congrArg ((loads i arg2 harg2 arg3 harg3 arg4 harg4 arg5 harg5 arg6 harg6 arg7 harg7 arg8 harg8 arg9 harg9 arg10 harg10 x0 x1 x2 x3 x4 x5 x6 x7 x8).cntStep 1) (counts1 c i arg2 harg2 arg3 harg3 arg4 harg4 arg5 harg5 arg6 harg6 arg7 harg7 arg8 harg8 arg9 harg9 arg10 harg10 x0 x1 x2 x3 x4 x5 x6 x7 x8))

/-- The counts after sub-block 2. -/
theorem counts3 : kernelRun0_A.sl.r_48 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cnt 3 := (show kernelRun0_A.sl.r_48 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cntStep 2 (kernelRun0_A.sl.r_32 c arg5 harg5 arg6 harg6 arg8 harg8 arg10 harg10 x3 x4 x6 x8) from (rfl)).trans
  (congrArg ((loads i arg2 harg2 arg3 harg3 arg4 harg4 arg5 harg5 arg6 harg6 arg7 harg7 arg8 harg8 arg9 harg9 arg10 harg10 x0 x1 x2 x3 x4 x5 x6 x7 x8).cntStep 2) (counts2 c i arg2 harg2 arg3 harg3 arg4 harg4 arg5 harg5 arg6 harg6 arg7 harg7 arg8 harg8 arg9 harg9 arg10 harg10 x0 x1 x2 x3 x4 x5 x6 x7 x8))

/-- The counts after sub-block 3. -/
theorem counts4 : kernelRun0_A.sl.r_70 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cnt 4 := (show kernelRun0_A.sl.r_70 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cntStep 3 (kernelRun0_A.sl.r_48 c arg5 harg5 arg6 harg6 arg8 harg8 arg10 harg10 x3 x4 x6 x8) from (rfl)).trans
  (congrArg ((loads i arg2 harg2 arg3 harg3 arg4 harg4 arg5 harg5 arg6 harg6 arg7 harg7 arg8 harg8 arg9 harg9 arg10 harg10 x0 x1 x2 x3 x4 x5 x6 x7 x8).cntStep 3) (counts3 c i arg2 harg2 arg3 harg3 arg4 harg4 arg5 harg5 arg6 harg6 arg7 harg7 arg8 harg8 arg9 harg9 arg10 harg10 x0 x1 x2 x3 x4 x5 x6 x7 x8))

/-- The counts after sub-block 4. -/
theorem counts5 : kernelRun0_A.sl.r_89 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cnt 5 := (show kernelRun0_A.sl.r_89 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cntStep 4 (kernelRun0_A.sl.r_70 c arg5 harg5 arg6 harg6 arg8 harg8 arg10 harg10 x3 x4 x6 x8) from (rfl)).trans
  (congrArg ((loads i arg2 harg2 arg3 harg3 arg4 harg4 arg5 harg5 arg6 harg6 arg7 harg7 arg8 harg8 arg9 harg9 arg10 harg10 x0 x1 x2 x3 x4 x5 x6 x7 x8).cntStep 4) (counts4 c i arg2 harg2 arg3 harg3 arg4 harg4 arg5 harg5 arg6 harg6 arg7 harg7 arg8 harg8 arg9 harg9 arg10 harg10 x0 x1 x2 x3 x4 x5 x6 x7 x8))

/-- The counts after sub-block 5. -/
theorem counts6 : kernelRun0_A.sl.r_109 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cnt 6 := (show kernelRun0_A.sl.r_109 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cntStep 5 (kernelRun0_A.sl.r_89 c arg5 harg5 arg6 harg6 arg8 harg8 arg10 harg10 x3 x4 x6 x8) from (rfl)).trans
  (congrArg ((loads i arg2 harg2 arg3 harg3 arg4 harg4 arg5 harg5 arg6 harg6 arg7 harg7 arg8 harg8 arg9 harg9 arg10 harg10 x0 x1 x2 x3 x4 x5 x6 x7 x8).cntStep 5) (counts5 c i arg2 harg2 arg3 harg3 arg4 harg4 arg5 harg5 arg6 harg6 arg7 harg7 arg8 harg8 arg9 harg9 arg10 harg10 x0 x1 x2 x3 x4 x5 x6 x7 x8))

/-- The counts after sub-block 6. -/
theorem counts7 : kernelRun0_A.sl.r_123 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cnt 7 := (show kernelRun0_A.sl.r_123 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cntStep 6 (kernelRun0_A.sl.r_109 c arg5 harg5 arg6 harg6 arg8 harg8 arg10 harg10 x3 x4 x6 x8) from (rfl)).trans
  (congrArg ((loads i arg2 harg2 arg3 harg3 arg4 harg4 arg5 harg5 arg6 harg6 arg7 harg7 arg8 harg8 arg9 harg9 arg10 harg10 x0 x1 x2 x3 x4 x5 x6 x7 x8).cntStep 6) (counts6 c i arg2 harg2 arg3 harg3 arg4 harg4 arg5 harg5 arg6 harg6 arg7 harg7 arg8 harg8 arg9 harg9 arg10 harg10 x0 x1 x2 x3 x4 x5 x6 x7 x8))

/-- The counts after sub-block 7. -/
theorem counts8 : kernelRun0_A.sl.r_135 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cnt 8 := (show kernelRun0_A.sl.r_135 c arg5 harg5 arg6 harg6 arg8 harg8 arg10 harg10 x3 x4 x6 x8 = (loads i arg2 harg2 arg3 harg3 arg4 harg4 arg5 harg5 arg6 harg6 arg7 harg7 arg8 harg8 arg9 harg9 arg10 harg10 x0 x1 x2 x3 x4 x5 x6 x7 x8).cntStep 7 (kernelRun0_A.sl.r_123 c arg5 harg5 arg6 harg6 arg8 harg8 arg10 harg10 x3 x4 x6 x8) from (rfl)).trans
  (congrArg ((loads i arg2 harg2 arg3 harg3 arg4 harg4 arg5 harg5 arg6 harg6 arg7 harg7 arg8 harg8 arg9 harg9 arg10 harg10 x0 x1 x2 x3 x4 x5 x6 x7 x8).cntStep 7) (counts7 c i arg2 harg2 arg3 harg3 arg4 harg4 arg5 harg5 arg6 harg6 arg7 harg7 arg8 harg8 arg9 harg9 arg10 harg10 x0 x1 x2 x3 x4 x5 x6 x7 x8))

/-- The sums before the first sub-block. -/
theorem sums0 : kernelRun0_A.sl.HS0_1 c arg9 harg9 x7 = (loads i arg2 harg2 arg3 harg3 arg4 harg4 arg5 harg5 arg6 harg6 arg7 harg7 arg8 harg8 arg9 harg9 arg10 harg10 x0 x1 x2 x3 x4 x5 x6 x7 x8).st arg14.view 0 := (rfl)

/-- The sums after sub-block 0. -/
theorem sums1 : kernelRun0_A.sl.HS0_3 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).st arg14.view 1 := (show kernelRun0_A.sl.HS0_3 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).sumStep arg14.view 0 (kernelRun0_A.sl.HS0_1 c arg9 harg9 x7) from (rfl)).trans
  (congrArg ((loads i arg2 harg2 arg3 harg3 arg4 harg4 arg5 harg5 arg6 harg6 arg7 harg7 arg8 harg8 arg9 harg9 arg10 harg10 x0 x1 x2 x3 x4 x5 x6 x7 x8).sumStep arg14.view 0) (sums0 c i arg2 harg2 arg3 harg3 arg4 harg4 arg5 harg5 arg6 harg6 arg7 harg7 arg8 harg8 arg9 harg9 arg10 harg10 arg14 x0 x1 x2 x3 x4 x5 x6 x7 x8))

/-- The sums after sub-block 1. -/
theorem sums2 : kernelRun0_A.sl.HS0_5 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).st arg14.view 2 := (show kernelRun0_A.sl.HS0_5 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).sumStep arg14.view 1 (kernelRun0_A.sl.HS0_3 c i arg3 harg3 arg5 harg5 arg6 harg6 arg8 harg8 arg9 harg9 arg14 x1 x3 x4 x6 x7) from (rfl)).trans
  (congrArg ((loads i arg2 harg2 arg3 harg3 arg4 harg4 arg5 harg5 arg6 harg6 arg7 harg7 arg8 harg8 arg9 harg9 arg10 harg10 x0 x1 x2 x3 x4 x5 x6 x7 x8).sumStep arg14.view 1) (sums1 c i arg2 harg2 arg3 harg3 arg4 harg4 arg5 harg5 arg6 harg6 arg7 harg7 arg8 harg8 arg9 harg9 arg10 harg10 arg14 x0 x1 x2 x3 x4 x5 x6 x7 x8))

/-- The sums after sub-block 2. -/
theorem sums3 : kernelRun0_A.sl.HS0_7 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).st arg14.view 3 := (show kernelRun0_A.sl.HS0_7 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).sumStep arg14.view 2 (kernelRun0_A.sl.HS0_5 c i arg3 harg3 arg5 harg5 arg6 harg6 arg8 harg8 arg9 harg9 arg14 x1 x3 x4 x6 x7) from (rfl)).trans
  (congrArg ((loads i arg2 harg2 arg3 harg3 arg4 harg4 arg5 harg5 arg6 harg6 arg7 harg7 arg8 harg8 arg9 harg9 arg10 harg10 x0 x1 x2 x3 x4 x5 x6 x7 x8).sumStep arg14.view 2) (sums2 c i arg2 harg2 arg3 harg3 arg4 harg4 arg5 harg5 arg6 harg6 arg7 harg7 arg8 harg8 arg9 harg9 arg10 harg10 arg14 x0 x1 x2 x3 x4 x5 x6 x7 x8))

/-- The sums after sub-block 3. -/
theorem sums4 : kernelRun0_A.sl.HS0_9 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).st arg14.view 4 := (show kernelRun0_A.sl.HS0_9 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).sumStep arg14.view 3 (kernelRun0_A.sl.HS0_7 c i arg3 harg3 arg5 harg5 arg6 harg6 arg8 harg8 arg9 harg9 arg14 x1 x3 x4 x6 x7) from (rfl)).trans
  (congrArg ((loads i arg2 harg2 arg3 harg3 arg4 harg4 arg5 harg5 arg6 harg6 arg7 harg7 arg8 harg8 arg9 harg9 arg10 harg10 x0 x1 x2 x3 x4 x5 x6 x7 x8).sumStep arg14.view 3) (sums3 c i arg2 harg2 arg3 harg3 arg4 harg4 arg5 harg5 arg6 harg6 arg7 harg7 arg8 harg8 arg9 harg9 arg10 harg10 arg14 x0 x1 x2 x3 x4 x5 x6 x7 x8))

/-- The sums after sub-block 4. -/
theorem sums5 : kernelRun0_A.sl.HS0_11 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).st arg14.view 5 := (show kernelRun0_A.sl.HS0_11 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).sumStep arg14.view 4 (kernelRun0_A.sl.HS0_9 c i arg3 harg3 arg5 harg5 arg6 harg6 arg8 harg8 arg9 harg9 arg14 x1 x3 x4 x6 x7) from (rfl)).trans
  (congrArg ((loads i arg2 harg2 arg3 harg3 arg4 harg4 arg5 harg5 arg6 harg6 arg7 harg7 arg8 harg8 arg9 harg9 arg10 harg10 x0 x1 x2 x3 x4 x5 x6 x7 x8).sumStep arg14.view 4) (sums4 c i arg2 harg2 arg3 harg3 arg4 harg4 arg5 harg5 arg6 harg6 arg7 harg7 arg8 harg8 arg9 harg9 arg10 harg10 arg14 x0 x1 x2 x3 x4 x5 x6 x7 x8))

/-- The sums after sub-block 5. -/
theorem sums6 : kernelRun0_A.sl.HS0_13 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).st arg14.view 6 := (show kernelRun0_A.sl.HS0_13 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).sumStep arg14.view 5 (kernelRun0_A.sl.HS0_11 c i arg3 harg3 arg5 harg5 arg6 harg6 arg8 harg8 arg9 harg9 arg14 x1 x3 x4 x6 x7) from (rfl)).trans
  (congrArg ((loads i arg2 harg2 arg3 harg3 arg4 harg4 arg5 harg5 arg6 harg6 arg7 harg7 arg8 harg8 arg9 harg9 arg10 harg10 x0 x1 x2 x3 x4 x5 x6 x7 x8).sumStep arg14.view 5) (sums5 c i arg2 harg2 arg3 harg3 arg4 harg4 arg5 harg5 arg6 harg6 arg7 harg7 arg8 harg8 arg9 harg9 arg10 harg10 arg14 x0 x1 x2 x3 x4 x5 x6 x7 x8))

/-- The sums after sub-block 6. -/
theorem sums7 : kernelRun0_A.sl.HS0_15 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).st arg14.view 7 := (show kernelRun0_A.sl.HS0_15 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).sumStep arg14.view 6 (kernelRun0_A.sl.HS0_13 c i arg3 harg3 arg5 harg5 arg6 harg6 arg8 harg8 arg9 harg9 arg14 x1 x3 x4 x6 x7) from (rfl)).trans
  (congrArg ((loads i arg2 harg2 arg3 harg3 arg4 harg4 arg5 harg5 arg6 harg6 arg7 harg7 arg8 harg8 arg9 harg9 arg10 harg10 x0 x1 x2 x3 x4 x5 x6 x7 x8).sumStep arg14.view 6) (sums6 c i arg2 harg2 arg3 harg3 arg4 harg4 arg5 harg5 arg6 harg6 arg7 harg7 arg8 harg8 arg9 harg9 arg10 harg10 arg14 x0 x1 x2 x3 x4 x5 x6 x7 x8))

/-- The sums after sub-block 7. -/
theorem sums8 : kernelRun0_A.sl.HS0_17 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).st arg14.view 8 := (show kernelRun0_A.sl.HS0_17 c i arg3 harg3 arg5 harg5 arg6 harg6 arg8 harg8 arg9 harg9 arg14 x1 x3 x4 x6 x7 = (loads i arg2 harg2 arg3 harg3 arg4 harg4 arg5 harg5 arg6 harg6 arg7 harg7 arg8 harg8 arg9 harg9 arg10 harg10 x0 x1 x2 x3 x4 x5 x6 x7 x8).sumStep arg14.view 7 (kernelRun0_A.sl.HS0_15 c i arg3 harg3 arg5 harg5 arg6 harg6 arg8 harg8 arg9 harg9 arg14 x1 x3 x4 x6 x7) from (rfl)).trans
  (congrArg ((loads i arg2 harg2 arg3 harg3 arg4 harg4 arg5 harg5 arg6 harg6 arg7 harg7 arg8 harg8 arg9 harg9 arg10 harg10 x0 x1 x2 x3 x4 x5 x6 x7 x8).sumStep arg14.view 7) (sums7 c i arg2 harg2 arg3 harg3 arg4 harg4 arg5 harg5 arg6 harg6 arg7 harg7 arg8 harg8 arg9 harg9 arg10 harg10 arg14 x0 x1 x2 x3 x4 x5 x6 x7 x8))

/-- The counts a grid step leaves are the counts after its eight sub-blocks. -/
theorem pieces11 : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.2.1
    = [⟨Rect.unit ![0, 0, 0, 0] S1x1x1x384.size inb_S1x1x1x384_S1x1x1x384_0_0_0_0, k0_pay2 ((loads i arg2 harg2 arg3 harg3 arg4 harg4 arg5 harg5 arg6 harg6 arg7 harg7 arg8 harg8 arg9 harg9 arg10 harg10 x0 x1 x2 x3 x4 x5 x6 x7 x8).cnt 8)⟩] := by
  rw [← counts8 c i arg2 harg2 arg3 harg3 arg4 harg4 arg5 harg5 arg6 harg6 arg7 harg7 arg8 harg8 arg9 harg9 arg10 harg10 x0 x1 x2 x3 x4 x5 x6 x7 x8]
  exact (rfl)

/-- The sums a grid step leaves are the running sums after its eight sub-blocks. -/
theorem pieces10 : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).2.1
    = [⟨Rect.unit ![0, 0, 0, 0] S1x1x384x128.size inb_S1x1x384x128_S1x1x384x128_0_0_0_0,
      k0_pay1 (arg14.view.readCov ((loads i arg2 harg2 arg3 harg3 arg4 harg4 arg5 harg5 arg6 harg6 arg7 harg7 arg8 harg8 arg9 harg9 arg10 harg10 x0 x1 x2 x3 x4 x5 x6 x7 x8).st arg14.view 8) allRect.toLoadRect)⟩] := by
  rw [← sums8 c i arg2 harg2 arg3 harg3 arg4 harg4 arg5 harg5 arg6 harg6 arg7 harg7 arg8 harg8 arg9 harg9 arg10 harg10 arg14 x0 x1 x2 x3 x4 x5 x6 x7 x8]
  exact (rfl)

/-- The attention output a grid step leaves: one piece per sub-block. -/
theorem pieces9 : (kernelRun0_A c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8).1
    = [⟨Rect.unit ![0, 1792, 0] S1x256x128.size inb_S1x2048x128_S1x256x128_0_1792_0,
        (loads i arg2 harg2 arg3 harg3 arg4 harg4 arg5 harg5 arg6 harg6 arg7 harg7 arg8 harg8 arg9 harg9 arg10 harg10 x0 x1 x2 x3 x4 x5 x6 x7 x8).out arg14.view 7⟩,
      ⟨Rect.unit ![0, 1536, 0] S1x256x128.size inb_S1x2048x128_S1x256x128_0_1536_0,
        (loads i arg2 harg2 arg3 harg3 arg4 harg4 arg5 harg5 arg6 harg6 arg7 harg7 arg8 harg8 arg9 harg9 arg10 harg10 x0 x1 x2 x3 x4 x5 x6 x7 x8).out arg14.view 6⟩,
      ⟨Rect.unit ![0, 1280, 0] S1x256x128.size inb_S1x2048x128_S1x256x128_0_1280_0,
        (loads i arg2 harg2 arg3 harg3 arg4 harg4 arg5 harg5 arg6 harg6 arg7 harg7 arg8 harg8 arg9 harg9 arg10 harg10 x0 x1 x2 x3 x4 x5 x6 x7 x8).out arg14.view 5⟩,
      ⟨Rect.unit ![0, 1024, 0] S1x256x128.size inb_S1x2048x128_S1x256x128_0_1024_0,
        (loads i arg2 harg2 arg3 harg3 arg4 harg4 arg5 harg5 arg6 harg6 arg7 harg7 arg8 harg8 arg9 harg9 arg10 harg10 x0 x1 x2 x3 x4 x5 x6 x7 x8).out arg14.view 4⟩,
      ⟨Rect.unit ![0, 768, 0] S1x256x128.size inb_S1x2048x128_S1x256x128_0_768_0,
        (loads i arg2 harg2 arg3 harg3 arg4 harg4 arg5 harg5 arg6 harg6 arg7 harg7 arg8 harg8 arg9 harg9 arg10 harg10 x0 x1 x2 x3 x4 x5 x6 x7 x8).out arg14.view 3⟩,
      ⟨Rect.unit ![0, 512, 0] S1x256x128.size inb_S1x2048x128_S1x256x128_0_512_0,
        (loads i arg2 harg2 arg3 harg3 arg4 harg4 arg5 harg5 arg6 harg6 arg7 harg7 arg8 harg8 arg9 harg9 arg10 harg10 x0 x1 x2 x3 x4 x5 x6 x7 x8).out arg14.view 2⟩,
      ⟨Rect.unit ![0, 256, 0] S1x256x128.size inb_S1x2048x128_S1x256x128_0_256_0,
        (loads i arg2 harg2 arg3 harg3 arg4 harg4 arg5 harg5 arg6 harg6 arg7 harg7 arg8 harg8 arg9 harg9 arg10 harg10 x0 x1 x2 x3 x4 x5 x6 x7 x8).out arg14.view 1⟩,
      ⟨Rect.unit ![0, 0, 0] S1x256x128.size inb_S1x2048x128_S1x256x128_0_0_0,
        (loads i arg2 harg2 arg3 harg3 arg4 harg4 arg5 harg5 arg6 harg6 arg7 harg7 arg8 harg8 arg9 harg9 arg10 harg10 x0 x1 x2 x3 x4 x5 x6 x7 x8).out arg14.view 0⟩] := by
  unfold Loads.out
  rw [← counts0 c i arg2 harg2 arg3 harg3 arg4 harg4 arg5 harg5 arg6 harg6 arg7 harg7 arg8 harg8 arg9 harg9 arg10 harg10 x0 x1 x2 x3 x4 x5 x6 x7 x8, ← sums0 c i arg2 harg2 arg3 harg3 arg4 harg4 arg5 harg5 arg6 harg6 arg7 harg7 arg8 harg8 arg9 harg9 arg10 harg10 arg14 x0 x1 x2 x3 x4 x5 x6 x7 x8,
    ← counts1 c i arg2 harg2 arg3 harg3 arg4 harg4 arg5 harg5 arg6 harg6 arg7 harg7 arg8 harg8 arg9 harg9 arg10 harg10 x0 x1 x2 x3 x4 x5 x6 x7 x8, ← sums1 c i arg2 harg2 arg3 harg3 arg4 harg4 arg5 harg5 arg6 harg6 arg7 harg7 arg8 harg8 arg9 harg9 arg10 harg10 arg14 x0 x1 x2 x3 x4 x5 x6 x7 x8,
    ← counts2 c i arg2 harg2 arg3 harg3 arg4 harg4 arg5 harg5 arg6 harg6 arg7 harg7 arg8 harg8 arg9 harg9 arg10 harg10 x0 x1 x2 x3 x4 x5 x6 x7 x8, ← sums2 c i arg2 harg2 arg3 harg3 arg4 harg4 arg5 harg5 arg6 harg6 arg7 harg7 arg8 harg8 arg9 harg9 arg10 harg10 arg14 x0 x1 x2 x3 x4 x5 x6 x7 x8,
    ← counts3 c i arg2 harg2 arg3 harg3 arg4 harg4 arg5 harg5 arg6 harg6 arg7 harg7 arg8 harg8 arg9 harg9 arg10 harg10 x0 x1 x2 x3 x4 x5 x6 x7 x8, ← sums3 c i arg2 harg2 arg3 harg3 arg4 harg4 arg5 harg5 arg6 harg6 arg7 harg7 arg8 harg8 arg9 harg9 arg10 harg10 arg14 x0 x1 x2 x3 x4 x5 x6 x7 x8,
    ← counts4 c i arg2 harg2 arg3 harg3 arg4 harg4 arg5 harg5 arg6 harg6 arg7 harg7 arg8 harg8 arg9 harg9 arg10 harg10 x0 x1 x2 x3 x4 x5 x6 x7 x8, ← sums4 c i arg2 harg2 arg3 harg3 arg4 harg4 arg5 harg5 arg6 harg6 arg7 harg7 arg8 harg8 arg9 harg9 arg10 harg10 arg14 x0 x1 x2 x3 x4 x5 x6 x7 x8,
    ← counts5 c i arg2 harg2 arg3 harg3 arg4 harg4 arg5 harg5 arg6 harg6 arg7 harg7 arg8 harg8 arg9 harg9 arg10 harg10 x0 x1 x2 x3 x4 x5 x6 x7 x8, ← sums5 c i arg2 harg2 arg3 harg3 arg4 harg4 arg5 harg5 arg6 harg6 arg7 harg7 arg8 harg8 arg9 harg9 arg10 harg10 arg14 x0 x1 x2 x3 x4 x5 x6 x7 x8,
    ← counts6 c i arg2 harg2 arg3 harg3 arg4 harg4 arg5 harg5 arg6 harg6 arg7 harg7 arg8 harg8 arg9 harg9 arg10 harg10 x0 x1 x2 x3 x4 x5 x6 x7 x8, ← sums6 c i arg2 harg2 arg3 harg3 arg4 harg4 arg5 harg5 arg6 harg6 arg7 harg7 arg8 harg8 arg9 harg9 arg10 harg10 arg14 x0 x1 x2 x3 x4 x5 x6 x7 x8,
    ← counts7 c i arg2 harg2 arg3 harg3 arg4 harg4 arg5 harg5 arg6 harg6 arg7 harg7 arg8 harg8 arg9 harg9 arg10 harg10 x0 x1 x2 x3 x4 x5 x6 x7 x8, ← sums7 c i arg2 harg2 arg3 harg3 arg4 harg4 arg5 harg5 arg6 harg6 arg7 harg7 arg8 harg8 arg9 harg9 arg10 harg10 arg14 x0 x1 x2 x3 x4 x5 x6 x7 x8]
  exact (rfl)

end Run

end Cert.Proof.Step
-- ==== Proof.Reads.lean ====
/- What a grid step of the kernel loads, element by element. -/
module

public import proofs.«01_k».proof.Proof.Step
public import Idealize.ShloMosaic.Lib.Pointwise
public import Idealize.ShloMosaic.Lib.Pipeline.ValueKit

@[expose] public section

set_option maxRecDepth 16384

noncomputable section

namespace Cert.Proof.Step

open Cert.KernelIdeal Cert.KernelIdeal.Gen Idealize.ShloMosaic Idealize.ShloMosaic.TcCoe Idealize.SL.Sem

variable (i : grid0.Coords) (arg2 : Memref sig .tc .smem S24x32 .f32) (harg2 : arg2.IsWhole) (arg3 : Memref sig .tc .smem S24x32 .f32) (harg3 : arg3.IsWhole) (arg4 : Memref sig .tc .vmem S1x1x2048x128 .fp8e4m3) (harg4 : arg4.IsWhole) (arg5 : Memref sig .tc .vmem S1x2048x1 .i32) (harg5 : arg5.IsWhole) (arg6 : Memref sig .tc .vmem S1x1x1x2048 .i32) (harg6 : arg6.IsWhole) (arg7 : Memref sig .tc .vmem S1x384x128 .bf16) (harg7 : arg7.IsWhole) (arg8 : Memref sig .tc .vmem S1x1x2048x128 .fp8e4m3) (harg8 : arg8.IsWhole) (arg9 : Memref sig .tc .vmem S1x1x384x128 .f32) (harg9 : arg9.IsWhole) (arg10 : Memref sig .tc .vmem S1x1x1x384 .f32) (harg10 : arg10.IsWhole)
    (x0 : Vec Ideal S24x32 .f32) (x1 : Vec Ideal S24x32 .f32) (x2 : Vec Ideal S1x1x2048x128 .fp8e4m3) (x3 : Vec Ideal S1x2048x1 .i32) (x4 : Vec Ideal S1x1x1x2048 .i32) (x5 : Vec Ideal S1x384x128 .bf16) (x6 : Vec Ideal S1x1x2048x128 .fp8e4m3) (x7 : Vec Ideal S1x1x384x128 .f32) (x8 : Vec Ideal S1x1x1x384 .f32)

/-- Row `r` of the queries of sub-block `s`. -/
theorem ld_q (s : ℕ) (r : Fin 256) (x : Fin 128) : (loads i arg2 harg2 arg3 harg3 arg4 harg4 arg5 harg5 arg6 harg6 arg7 harg7 arg8 harg8 arg9 harg9 arg10 harg10 x0 x1 x2 x3 x4 x5 x6 x7 x8).q s (ix4 0 0 r x) = x2 (ix4 0 0 ⟨256 * (s % 8) + r.val, by omega⟩ x) := by
  show View.readAt _ _ _ _ _ = _
  rw [View.readAt_eq_ld, harg4.read_unread]
  pointwise

/-- Row `r` of the values of sub-block `s`. -/
theorem ld_v (s : ℕ) (r : Fin 256) (x : Fin 128) : (loads i arg2 harg2 arg3 harg3 arg4 harg4 arg5 harg5 arg6 harg6 arg7 harg7 arg8 harg8 arg9 harg9 arg10 harg10 x0 x1 x2 x3 x4 x5 x6 x7 x8).v s (ix4 0 0 r x) = x6 (ix4 0 0 ⟨256 * (s % 8) + r.val, by omega⟩ x) := by
  show View.readAt _ _ _ _ _ = _
  rw [View.readAt_eq_ld, harg8.read_unread]
  pointwise

/-- Code `r` of sub-block `s`, from the column. -/
theorem ld_kc (s : ℕ) (r : Fin 256) : (loads i arg2 harg2 arg3 harg3 arg4 harg4 arg5 harg5 arg6 harg6 arg7 harg7 arg8 harg8 arg9 harg9 arg10 harg10 x0 x1 x2 x3 x4 x5 x6 x7 x8).kc s (ix3 0 r 0) = x3 (ix3 0 ⟨256 * (s % 8) + r.val, by omega⟩ 0) := by
  show View.readAt _ _ _ _ _ = _
  rw [View.readAt_eq_ld, harg5.read_unread]
  pointwise

/-- Code `r` of sub-block `s`, from the row. -/
theorem ld_kr (s : ℕ) (r : Fin 256) : (loads i arg2 harg2 arg3 harg3 arg4 harg4 arg5 harg5 arg6 harg6 arg7 harg7 arg8 harg8 arg9 harg9 arg10 harg10 x0 x1 x2 x3 x4 x5 x6 x7 x8).kr s (ix4 0 0 0 r) = x4 (ix4 0 0 0 ⟨256 * (s % 8) + r.val, by omega⟩) := by
  show View.readAt _ _ _ _ _ = _
  rw [View.readAt_eq_ld, harg6.read_unread]
  pointwise

/-- The codebook. -/
theorem ld_cb (k : Fin 384) (x : Fin 128) : (loads i arg2 harg2 arg3 harg3 arg4 harg4 arg5 harg5 arg6 harg6 arg7 harg7 arg8 harg8 arg9 harg9 arg10 harg10 x0 x1 x2 x3 x4 x5 x6 x7 x8).cb (ix3 0 k x) = x5 (ix3 0 k x) := by
  show View.readAt _ _ _ _ _ = _
  rw [View.readAt_eq_ld, harg7.read_unread]
  pointwise

/-- The sums before the first key. -/
theorem ld_u0 (k : Fin 384) (x : Fin 128) : (loads i arg2 harg2 arg3 harg3 arg4 harg4 arg5 harg5 arg6 harg6 arg7 harg7 arg8 harg8 arg9 harg9 arg10 harg10 x0 x1 x2 x3 x4 x5 x6 x7 x8).u0 (ix4 0 0 k x) = x7 (ix4 0 0 k x) := by
  show View.readAt _ _ _ _ _ = _
  rw [View.readAt_eq_ld, harg9.read_unread]
  pointwise

/-- The counts before the first key. -/
theorem ld_n0 (k : Fin 384) : (loads i arg2 harg2 arg3 harg3 arg4 harg4 arg5 harg5 arg6 harg6 arg7 harg7 arg8 harg8 arg9 harg9 arg10 harg10 x0 x1 x2 x3 x4 x5 x6 x7 x8).n0 (ix4 0 0 0 k) = x8 (ix4 0 0 0 k) := by
  show View.readAt _ _ _ _ _ = _
  rw [View.readAt_eq_ld, harg10.read_unread]
  pointwise

/-- The scale of the queries of block `n`. -/
theorem ld_qs (n : ℕ) (b : Fin 24) (h : Fin 8) (hb : (i 0).val = b.val) (hh : (i 1).val = h.val) :
    (loads i arg2 harg2 arg3 harg3 arg4 harg4 arg5 harg5 arg6 harg6 arg7 harg7 arg8 harg8 arg9 harg9 arg10 harg10 x0 x1 x2 x3 x4 x5 x6 x7 x8).qs n = x0 (ix2 b ⟨8 * (n % 4) + h.val, by omega⟩) := by
  show View.readAt _ _ _ _ _ = _
  rw [View.readAt_eq_ld, harg2.read_unread]
  have e := k0_off1_eq i ⟨n % 4, Nat.mod_lt _ (by decide)⟩
  refine congrArg x0 (funext fun a => Fin.ext ?_)
  match a with
  | ⟨0, _⟩ =>
    have e0 : k0_off1 i (BitVec.ofNat 32 (8 * (n % 4))) (0 : Fin 2) = (i 0).val := congrFun e (0 : Fin 2)
    show k0_off1 i (BitVec.ofNat 32 (8 * (n % 4))) (0 : Fin 2) + 1 * 0 = b.val
    omega
  | ⟨1, _⟩ =>
    have e1 : k0_off1 i (BitVec.ofNat 32 (8 * (n % 4))) (1 : Fin 2) = 8 * (n % 4) + (i 1).val := congrFun e (1 : Fin 2)
    show k0_off1 i (BitVec.ofNat 32 (8 * (n % 4))) (1 : Fin 2) + 1 * 0 = 8 * (n % 4) + h.val
    omega

/-- The scale of the values of block `n`. -/
theorem ld_vs (n : ℕ) (b : Fin 24) (h : Fin 8) (hb : (i 0).val = b.val) (hh : (i 1).val = h.val) :
    (loads i arg2 harg2 arg3 harg3 arg4 harg4 arg5 harg5 arg6 harg6 arg7 harg7 arg8 harg8 arg9 harg9 arg10 harg10 x0 x1 x2 x3 x4 x5 x6 x7 x8).vs n = x1 (ix2 b ⟨8 * (n % 4) + h.val, by omega⟩) := by
  show View.readAt _ _ _ _ _ = _
  rw [View.readAt_eq_ld, harg3.read_unread]
  have e := k0_off1_eq i ⟨n % 4, Nat.mod_lt _ (by decide)⟩
  refine congrArg x1 (funext fun a => Fin.ext ?_)
  match a with
  | ⟨0, _⟩ =>
    have e0 : k0_off1 i (BitVec.ofNat 32 (8 * (n % 4))) (0 : Fin 2) = (i 0).val := congrFun e (0 : Fin 2)
    show k0_off1 i (BitVec.ofNat 32 (8 * (n % 4))) (0 : Fin 2) + 1 * 0 = b.val
    omega
  | ⟨1, _⟩ =>
    have e1 : k0_off1 i (BitVec.ofNat 32 (8 * (n % 4))) (1 : Fin 2) = 8 * (n % 4) + (i 1).val := congrFun e (1 : Fin 2)
    show k0_off1 i (BitVec.ofNat 32 (8 * (n % 4))) (1 : Fin 2) + 1 * 0 = 8 * (n % 4) + h.val
    omega

end Cert.Proof.Step
-- ==== Proof.Tiles.lean ====
/- The three output blocks of a grid step, element by element. -/
module

public import proofs.«01_k».proof.Proof.Step
public import Idealize.ShloMosaic.Lib.Pointwise
public import Idealize.ShloMosaic.Lib.Pipeline.ValueKit

@[expose] public section

set_option maxRecDepth 16384
set_option maxHeartbeats 1000000

noncomputable section

namespace Cert.Proof.Step

open Cert.KernelIdeal Cert.KernelIdeal.Gen Idealize.ShloMosaic Idealize.ShloMosaic.TcCoe Idealize.SL.Sem

variable (c : Dev nD) (i : grid0.Coords) (arg2 : Memref sig .tc .smem S24x32 .f32) (harg2 : arg2.IsWhole) (arg3 : Memref sig .tc .smem S24x32 .f32) (harg3 : arg3.IsWhole) (arg4 : Memref sig .tc .vmem S1x1x2048x128 .fp8e4m3) (harg4 : arg4.IsWhole) (arg5 : Memref sig .tc .vmem S1x2048x1 .i32) (harg5 : arg5.IsWhole) (arg6 : Memref sig .tc .vmem S1x1x1x2048 .i32) (harg6 : arg6.IsWhole) (arg7 : Memref sig .tc .vmem S1x384x128 .bf16) (harg7 : arg7.IsWhole) (arg8 : Memref sig .tc .vmem S1x1x2048x128 .fp8e4m3) (harg8 : arg8.IsWhole) (arg9 : Memref sig .tc .vmem S1x1x384x128 .f32) (harg9 : arg9.IsWhole) (arg10 : Memref sig .tc .vmem S1x1x1x384 .f32) (harg10 : arg10.IsWhole) (arg11 : Memref sig .tc .vmem S1x2048x128 .bf16) (harg11 : arg11.IsWhole) (arg12 : Memref sig .tc .vmem S1x1x384x128 .f32) (harg12 : arg12.IsWhole) (arg13 : Memref sig .tc .vmem S1x1x1x384 .f32) (harg13 : arg13.IsWhole) (arg14 : Memref sig .tc .vmem S128x384 .f32) (harg14 : arg14.IsWhole)
    (x0 : Vec Ideal S24x32 .f32) (x1 : Vec Ideal S24x32 .f32) (x2 : Vec Ideal S1x1x2048x128 .fp8e4m3) (x3 : Vec Ideal S1x2048x1 .i32) (x4 : Vec Ideal S1x1x1x2048 .i32) (x5 : Vec Ideal S1x384x128 .bf16) (x6 : Vec Ideal S1x1x2048x128 .fp8e4m3) (x7 : Vec Ideal S1x1x384x128 .f32) (x8 : Vec Ideal S1x1x1x384 .f32)

/-- The attention output of a grid step is put together from its eight sub-blocks. -/
theorem tiles9 (G : Fin 2048 → Fin 128 → EReal)
    (hG : ∀ (s : ℕ) (r : Fin 256) (d : Fin 128) (j : Fin 2048), j.val = 256 * s + r.val → (loads i arg2 harg2 arg3 harg3 arg4 harg4 arg5 harg5 arg6 harg6 arg7 harg7 arg8 harg8 arg9 harg9 arg10 harg10 x0 x1 x2 x3 x4 x5 x6 x7 x8).out arg14.view s (ix3 0 r d) = G j d)
    (j : Fin 2048) (d : Fin 128) : out0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 0 j d) = G j d := by
  unfold out0_A_9
  rw [View.read_writes_junk_eq_canon, pieces9]
  generalize (loads i arg2 harg2 arg3 harg3 arg4 harg4 arg5 harg5 arg6 harg6 arg7 harg7 arg8 harg8 arg9 harg9 arg10 harg10 x0 x1 x2 x3 x4 x5 x6 x7 x8).out arg14.view = f at hG ⊢
  canon_tiles z h
  all_goals
    idx_vars z
    have e0 : z0 = 0 := Subsingleton.elim _ _
    have e2 : d = z2 := Fin.ext h2
    subst e0 e2
    refine hG _ z1 _ j ?_
    first
      | exact h1
      | exact h1.trans (Nat.zero_add _).symm

/-- The sums a grid step leaves. -/
theorem tiles10 (k : Fin 384) (d : Fin 128) : out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix4 0 0 k d)
    = k0_pay1 (arg14.view.readCov ((loads i arg2 harg2 arg3 harg3 arg4 harg4 arg5 harg5 arg6 harg6 arg7 harg7 arg8 harg8 arg9 harg9 arg10 harg10 x0 x1 x2 x3 x4 x5 x6 x7 x8).st arg14.view 8) allRect.toLoadRect) (ix4 0 0 k d) := by
  have hz : (![0, 0, 0, 0] : Fin 4 → Nat) = fun _ => 0 := by funext a; fin_cases a <;> rfl
  unfold out0_A_10
  rw [View.read_writes_junk_eq_canon, pieces10]
  generalize k0_pay1 (arg14.view.readCov ((loads i arg2 harg2 arg3 harg3 arg4 harg4 arg5 harg5 arg6 harg6 arg7 harg7 arg8 harg8 arg9 harg9 arg10 harg10 x0 x1 x2 x3 x4 x5 x6 x7 x8).st arg14.view 8) allRect.toLoadRect) = f
  exact congrFun (View.canon_unit_zero (Val := Elt Ideal) (e := .f32) (S := S1x1x384x128) (off := ![0, 0, 0, 0]) hz _ f) _

/-- The counts a grid step leaves. -/
theorem tiles11 (k : Fin 384) : out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix4 0 0 0 k) = k0_pay2 ((loads i arg2 harg2 arg3 harg3 arg4 harg4 arg5 harg5 arg6 harg6 arg7 harg7 arg8 harg8 arg9 harg9 arg10 harg10 x0 x1 x2 x3 x4 x5 x6 x7 x8).cnt 8) (ix4 0 0 0 k) := by
  have hz : (![0, 0, 0, 0] : Fin 4 → Nat) = fun _ => 0 := by funext a; fin_cases a <;> rfl
  unfold out0_A_11
  rw [View.read_writes_junk_eq_canon, pieces11]
  generalize k0_pay2 ((loads i arg2 harg2 arg3 harg3 arg4 harg4 arg5 harg5 arg6 harg6 arg7 harg7 arg8 harg8 arg9 harg9 arg10 harg10 x0 x1 x2 x3 x4 x5 x6 x7 x8).cnt 8) = f
  exact congrFun (View.canon_unit_zero (Val := Elt Ideal) (e := .f32) (S := S1x1x1x384) (off := ![0, 0, 0, 0]) hz _ f) _

end Cert.Proof.Step
-- ==== Proof.Arrays.lean ====
/- The three arrays the kernel leaves, as functions of its arguments. -/
module

public import proofs.«01_k».proof.Proof.Blocks
public import proofs.«01_k».proof.Proof.Reads
public import proofs.«01_k».proof.Proof.Tiles

@[expose] public section

set_option maxRecDepth 16384

noncomputable section

namespace Cert.Proof

open Cert.KernelIdeal Cert.KernelIdeal.Gen Idealize.ShloMosaic Idealize.ShloMosaic.TcCoe Idealize.SL.Sem
open Idealize.ShloMosaic.Pipeline (Dat)
open Cert.Proof.Attn

variable (m : (ℓ : Loc nD τ sig) → Buf (Elt Ideal) ℓ) (c : Dev nD)

/-- What the grid step `t` loads. -/
def lds (t : Fin cfg0.N) : Step.Loads Ideal := Step.loads (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t) (iblk m c 8 t)

variable {m c} (g : (argsOf m c).Sane) (t : Fin cfg0.N)

/-- Row `r` of sub-block `s` is position `256 s + r`. -/
theorem pos_sub (s r : ℕ) (h : 256 * (s % 8) + r < 2048) : (⟨256 * (s % 8) + r, h⟩ : Fin 2048) = Args.pos (256 * s + r) := by
  apply Fin.ext
  show 256 * (s % 8) + r = (256 * s + r) % 2048
  omega

include g in
/-- A grid step loads the sequences of its sequence and head. -/
theorem good : Model.Good (lds m c t) ((argsOf m c).cd (row t) (head t)) ((argsOf m c).vd (row t) (head t))
    ((argsOf m c).qr (row t) (head t)) ((argsOf m c).vr (row t) (head t)) ((argsOf m c).nr (row t) (head t))
    ((argsOf m c).ur (row t) (head t)) where
  kc s k := by
    refine (Step.ld_kc _ _ _ _ _ _ _ _ _ _ _ _ _ _ _ _ _ _ _ _ _ _ _ _ _ _ _ _ s k).trans ((blk3 m c t _).trans ?_)
    rw [pos_sub s k.val]
    exact Args.kc_eq g _
  kr s k := by
    refine (Step.ld_kr _ _ _ _ _ _ _ _ _ _ _ _ _ _ _ _ _ _ _ _ _ _ _ _ _ _ _ _ s k).trans ((blk4 m c t _).trans ?_)
    rw [pos_sub s k.val]
    exact Args.kc_eq g _
  hv s k d := by
    refine (Step.ld_v _ _ _ _ _ _ _ _ _ _ _ _ _ _ _ _ _ _ _ _ _ _ _ _ _ _ _ _ s k d).trans ((blk6 m c t _ _).trans ?_)
    rw [pos_sub s k.val]
    rfl
  qs n := by
    refine (Step.ld_qs _ _ _ _ _ _ _ _ _ _ _ _ _ _ _ _ _ _ _ _ _ _ _ _ _ _ _ _ n (row t) (head t) rfl rfl).trans ((blk0 m c t _ _).trans ?_)
    refine Eq.trans (congrArg _ ?_) (Args.qs_eq (row t) (head t) g n)
    have := (head t).isLt
    blk_ext [Args.blk]
  qpos n := Args.qr_pos (row t) (head t) g n
  vs n := by
    refine (Step.ld_vs _ _ _ _ _ _ _ _ _ _ _ _ _ _ _ _ _ _ _ _ _ _ _ _ _ _ _ _ n (row t) (head t) rfl rfl).trans ((blk1 m c t _ _).trans ?_)
    refine Eq.trans (congrArg _ ?_) (Args.vs_eq (row t) (head t) g n)
    have := (head t).isLt
    blk_ext [Args.blk]
  vnn n := Args.vr_nn (row t) (head t) g n
  hn0 k := (Step.ld_n0 _ _ _ _ _ _ _ _ _ _ _ _ _ _ _ _ _ _ _ _ _ _ _ _ _ _ _ _ k).trans
    ((blk8 m c t k).trans (Args.n0_eq (row t) (head t) g k))
  nnn k := Args.nr_nn (row t) (head t) g k
  hu0 k d := (Step.ld_u0 _ _ _ _ _ _ _ _ _ _ _ _ _ _ _ _ _ _ _ _ _ _ _ _ _ _ _ _ k d).trans (blk7 m c t k d)
  uz k d hk := Args.ur_zero (row t) (head t) g k d hk

include g in
/-- What a grid step computes for a query of its sub-block `s`. -/
theorem step_out (w : View sig .tc .vmem S128x384 .f32) (s : ℕ) (r : Fin 256) (d : Fin 128) (i : Fin 2048) (hi : i.val = 256 * s + r.val) :
    (lds m c t).out w s (ix3 0 r d) = (argsOf m c).att (row t) (head t) i d := by
  refine (Model.out_eq (good g t) w s r d).trans ?_
  unfold Args.att
  have e1 : i.val / 512 = s / 2 := by have := r.isLt; omega
  have e2 : i.val + 1 = 256 * s + (r.val + 1) := by omega
  rw [e1, e2]
  refine congrArg (fun f => attn _ f _ _) (funext fun k => Finset.sum_congr rfl fun x _ => congrArg₂ (· * ·) ?_ ?_)
  · exact (Step.ld_cb _ _ _ _ _ _ _ _ _ _ _ _ _ _ _ _ _ _ _ _ _ _ _ _ _ _ _ _ k x).trans (blk5 m c t k x)
  · refine (Step.ld_q _ _ _ _ _ _ _ _ _ _ _ _ _ _ _ _ _ _ _ _ _ _ _ _ _ _ _ _ s r x).trans ((blk2 m c t _ x).trans ?_)
    have e3 : (⟨256 * (s % 8) + r.val, by omega⟩ : Fin 2048) = i := Fin.ext (by show 256 * (s % 8) + r.val = i.val; omega)
    rw [e3]

include g in
/-- The attention output of a grid step. -/
theorem out9 (i : Fin 2048) (d : Fin 128) : (outsAt0 m c t).1 (ix3 0 i d) = (argsOf m c).att (row t) (head t) i d := by
  have hG := step_out g t (scM0_0).view
  unfold lds at hG
  unfold outsAt0
  dsimp only []
  exact Step.tiles9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) ((argsOf m c).att (row t) (head t)) hG i d

include g in
/-- The sums a grid step leaves. -/
theorem out10 (k : Fin 384) (d : Fin 128) : (outsAt0 m c t).2.1 (ix4 0 0 k d) = (argsOf m c).sum (row t) (head t) d 2048 k := by
  have hG := Model.sum_final (good g t) (scM0_0).view k d
  unfold lds at hG
  unfold outsAt0
  dsimp only []
  rw [Step.tiles10]
  exact hG

include g in
/-- The counts a grid step leaves. -/
theorem out11 (k : Fin 384) : (outsAt0 m c t).2.2 (ix4 0 0 0 k) = (((argsOf m c).cnt (row t) (head t) 2048 k : ℝ) : EReal) := by
  have hG := Model.cnt_final (good g t) k
  unfold lds at hG
  unfold outsAt0
  dsimp only []
  rw [Step.tiles11]
  exact hG

/-- The attention output, as an array of rows of all heads. -/
def attArr (A : Args) : S24x2048x1024.Idx → EReal := fun j =>
  A.att (j 0) ⟨(j 2).val / 128, Nat.div_lt_of_lt_mul (j 2).isLt⟩ (j 1) ⟨(j 2).val % 128, Nat.mod_lt _ (by decide)⟩

/-- The sums after the last key, as an array. -/
def sumArr (A : Args) : S24x8x384x128.Idx → EReal := fun j => A.sum (j 0) (j 1) (j 3) 2048 (j 2)

/-- The counts after the last key, as an array. -/
def cntArr (A : Args) : S24x8x1x384.Idx → EReal := fun j => ((A.cnt (j 0) (j 1) 2048 (j 3) : ℝ) : EReal)

include g in
/-- The attention output the kernel leaves. -/
theorem final9 : (dats m 0 c).arrAt 9 cfg0.N = attArr (argsOf m c) := by
  refine (dats m 0 c).arrAt_eq_of_covers 9 _ (by decide +kernel) fun t _ y => ?_
  have y2 : (y 2).val < 128 := (y 2).isLt
  have e : ((cfg0.win 9).blk t).view.emb y = ix3 (row t) (y 1) ⟨(head t).val * 128 + (y 2).val, by have := (head t).isLt; omega⟩ := by
    blk_ext [kidx_out t, row, head]
  have ey : y = (ix3 0 (y 1) (y 2) : S1x2048x128.Idx) := by blk_ext
  blk_simp
  rw [after0_9]
  refine (congrArg (outsAt0 m c t).1 ey).trans ((out9 g t (y 1) (y 2)).trans (Eq.trans ?_ (congrArg (attArr (argsOf m c)) e).symm))
  have e1 : (⟨((head t).val * 128 + (y 2).val) / 128, by have := (head t).isLt; omega⟩ : Fin 8) = head t := Fin.ext (by show ((head t).val * 128 + (y 2).val) / 128 = (head t).val; omega)
  have e2 : (⟨((head t).val * 128 + (y 2).val) % 128, by omega⟩ : Fin 128) = y 2 := Fin.ext (by show ((head t).val * 128 + (y 2).val) % 128 = (y 2).val; omega)
  exact (congrArg₂ (fun a b => (argsOf m c).att (row t) a (y 1) b) e1 e2).symm

include g in
/-- The sums the kernel leaves. -/
theorem final10 : (dats m 0 c).arrAt 10 cfg0.N = sumArr (argsOf m c) := by
  refine (dats m 0 c).arrAt_eq_of_covers 10 _ (by decide +kernel) fun t _ y => ?_
  have e : ((cfg0.win 10).blk t).view.emb y = ix4 (row t) (head t) (y 2) (y 3) := by
    blk_ext [kidx_out t, row, head]
  have ey : y = (ix4 0 0 (y 2) (y 3) : S1x1x384x128.Idx) := by blk_ext
  blk_simp
  rw [after0_10]
  exact (congrArg (outsAt0 m c t).2.1 ey).trans ((out10 g t (y 2) (y 3)).trans (congrArg (sumArr (argsOf m c)) e).symm)

include g in
/-- The counts the kernel leaves. -/
theorem final11 : (dats m 0 c).arrAt 11 cfg0.N = cntArr (argsOf m c) := by
  refine (dats m 0 c).arrAt_eq_of_covers 11 _ (by decide +kernel) fun t _ y => ?_
  have e : ((cfg0.win 11).blk t).view.emb y = ix4 (row t) (head t) 0 (y 3) := by
    blk_ext [kidx_out t, row, head]
  have ey : y = (ix4 0 0 0 (y 3) : S1x1x1x384.Idx) := by blk_ext
  blk_simp
  rw [after0_11]
  exact (congrArg (outsAt0 m c t).2.2 ey).trans ((out11 g t (y 3)).trans (congrArg (cntArr (argsOf m c)) e).symm)

end Cert.Proof
-- ==== Proof.Sane.lean ====
/- What the precondition says of the argument arrays, as statements about numbers. -/
module

public import proofs.«01_k».proof.Proof.Seq
public import proofs.«01_k».proof.Pre_sane
public import Idealize.ShloMosaic.Lib.Pointwise

@[expose] public section

set_option maxRecDepth 16384

noncomputable section

namespace Cert.Proof

open Idealize.ShloMosaic Idealize.ShloMosaic.TcCoe Idealize.SL.Sem

/-- A number above zero and below infinity is a positive real. -/
theorem pos_real {x : EReal} (h0 : 0 < x) (h1 : x < ⊤) : ∃ r : ℝ, 0 < r ∧ x = (r : EReal) := by
  induction x with
  | bot => exact absurd h0 (by simp)
  | top => exact absurd h1 (by simp)
  | coe r => exact ⟨r, by exact_mod_cast h0, rfl⟩

/-- A number from zero on and below infinity is a real that is not negative. -/
theorem nonneg_real {x : EReal} (h0 : 0 ≤ x) (h1 : x < ⊤) : ∃ r : ℝ, 0 ≤ r ∧ x = (r : EReal) := by
  induction x with
  | bot => exact absurd h0 (by simp)
  | top => exact absurd h1 (by simp)
  | coe r => exact ⟨r, by exact_mod_cast h0, rfl⟩

/-- Two bits whose conjunction is one are both one. -/
theorem both {a b : BitVec 1} (h : a &&& b = 1#1) : a = 1#1 ∧ b = 1#1 := by revert a b; decide

/-- Of two bits whose disjunction is one, one is one. -/
theorem either {a b : BitVec 1} (h : a ||| b = 1#1) : a = 1#1 ∨ b = 1#1 := by revert a b; decide

variable [Cert.Pre_sane.Facts] (A : Args)

/-- A bit made of a truth value is one when the truth value is true. -/
theorem of_bit {b : Bool} (h : BitVec.ofBool b = 1#1) : b = true := by revert b; decide

/-- The word of infinity is infinity. -/
theorem inf_word : Ideal.ofBits FTy.f32 2139095040#32 = ⊤ := by simp [Ideal.ofBits, Ideal.ieee]

/-- Scales of the queries. -/
theorem sane_qs (h : (Cert.Pre_sane.fn (F := Ideal) A.q A.qs A.kc A.cb A.v A.vs A.u0 A.n0).1 = fun _ => 1#1) (i) :
    ∃ r : ℝ, 0 < r ∧ A.qs i = (r : EReal) := by
  have h1 := congrFun h i
  idx_vars i
  pointwise [Cert.Pre_sane.fn, Cert.Pre_sane.fn_part1] at h1
  obtain ⟨a, b⟩ := both h1
  rw [inf_word] at b
  exact pos_real (of_decide_eq_true (of_bit a)) (of_decide_eq_true (of_bit b))

/-- Scales of the values. -/
theorem sane_vs (h : (Cert.Pre_sane.fn (F := Ideal) A.q A.qs A.kc A.cb A.v A.vs A.u0 A.n0).2.1 = fun _ => 1#1) (i) :
    ∃ r : ℝ, 0 ≤ r ∧ A.vs i = (r : EReal) := by
  have h1 := congrFun h i
  idx_vars i
  pointwise [Cert.Pre_sane.fn, Cert.Pre_sane.fn_part1] at h1
  obtain ⟨a, b⟩ := both h1
  rw [inf_word] at b
  exact nonneg_real (of_decide_eq_true (of_bit a)) (of_decide_eq_true (of_bit b))

/-- A word that is neither negative nor as large as 384, read as a signed number, is a number below 384. -/
theorem code_lt {w : BitVec 32} (h0 : (0#32).sle w = true) (h1 : w.slt 384#32 = true) : w.toNat < 384 := by
  simp only [BitVec.sle, BitVec.slt, decide_eq_true_eq, BitVec.toInt_eq_toNat_cond] at h0 h1
  simp at h0 h1
  omega

/-- Codes. -/
theorem sane_kc (h : (Cert.Pre_sane.fn (F := Ideal) A.q A.qs A.kc A.cb A.v A.vs A.u0 A.n0).2.2.1 = fun _ => 1#1) (i) :
    (A.kc i).toNat < 384 := by
  have h1 := congrFun h i
  idx_vars i
  pointwise [Cert.Pre_sane.fn, Cert.Pre_sane.fn_part1] at h1
  obtain ⟨a, b⟩ := both h1
  exact code_lt (of_bit a) (of_bit b)

/-- Counts before the first key. -/
theorem sane_n0 (h : (Cert.Pre_sane.fn (F := Ideal) A.q A.qs A.kc A.cb A.v A.vs A.u0 A.n0).2.2.2.1 = fun _ => 1#1) (i) :
    ∃ r : ℝ, 0 ≤ r ∧ A.n0 i = (r : EReal) := by
  have h1 := congrFun h i
  idx_vars i
  pointwise [Cert.Pre_sane.fn, Cert.Pre_sane.fn_part1] at h1
  obtain ⟨a, b⟩ := both h1
  rw [inf_word] at b
  exact nonneg_real (of_decide_eq_true (of_bit a)) (of_decide_eq_true (of_bit b))

/-- Sums before the first key: none where the count is zero. -/
theorem sane_u0 (h : (Cert.Pre_sane.fn (F := Ideal) A.q A.qs A.kc A.cb A.v A.vs A.u0 A.n0).2.2.2.2 = fun _ => 1#1)
    (t h' c d) (hz : A.n0 (ix3 t h' c) = 0) : A.u0 (ix4 t h' c d) = 0 := by
  have h1 := congrFun h (ix4 t h' c d)
  pointwise [Cert.Pre_sane.fn, Cert.Pre_sane.fn_part1] at h1
  rcases either h1 with a | a
  · rw [hz] at a
    simp at a
  · exact of_decide_eq_true (of_bit a)

/-- The precondition says what the proof needs of the arguments. -/
theorem sane_of
    (h : (Cert.Pre_sane.fn (F := Ideal) A.q A.qs A.kc A.cb A.v A.vs A.u0 A.n0).1 = (fun _ => 1#1)
      ∧ (Cert.Pre_sane.fn (F := Ideal) A.q A.qs A.kc A.cb A.v A.vs A.u0 A.n0).2.1 = (fun _ => 1#1)
      ∧ (Cert.Pre_sane.fn (F := Ideal) A.q A.qs A.kc A.cb A.v A.vs A.u0 A.n0).2.2.1 = (fun _ => 1#1)
      ∧ (Cert.Pre_sane.fn (F := Ideal) A.q A.qs A.kc A.cb A.v A.vs A.u0 A.n0).2.2.2.1 = (fun _ => 1#1)
      ∧ (Cert.Pre_sane.fn (F := Ideal) A.q A.qs A.kc A.cb A.v A.vs A.u0 A.n0).2.2.2.2 = (fun _ => 1#1)) : A.Sane :=
  ⟨sane_qs A h.1, sane_vs A h.2.1, sane_kc A h.2.2.1, sane_n0 A h.2.2.2.1, sane_u0 A h.2.2.2.2⟩

end Cert.Proof
-- ==== Proof.RefState.lean ====
/- The reference's results at an index: the running counts and sums, and the scores. -/
module

public import proofs.«01_k».proof.Proof.Seq
public import proofs.«01_k».proof.Proof.Gen.ReferenceIdeal.Read
public import Idealize.ShloMosaic.Lib.Pointwise

@[expose] public section

set_option maxRecDepth 16384

noncomputable section

namespace Cert.Proof.Ref

open Cert.ReferenceIdeal Cert.ReferenceIdeal.Gen Cert.ReferenceIdeal.Read Idealize.ShloMosaic Idealize.ShloMosaic.TcCoe
open Idealize.SL.Sem

variable {A : Args} (g : A.Sane)

/-- Key `k` of block `n`. -/
def key (n : Fin 4) (k : Fin 512) : Fin 2048 := ⟨n.val * 512 + k.val, by omega⟩

/-- Key `k` of block `n` lies at position `512 n + k`. -/
theorem pos_key (n : Fin 4) (k : Fin 512) : Args.pos (512 * n.val + k.val) = key n k :=
  Fin.ext (by show (512 * n.val + k.val) % 2048 = n.val * 512 + k.val; omega)

/-- A truth value read as a number. -/
theorem bit_val (p : Prop) [Decidable p] :
    (FloatOps.uitofp (F := Ideal) FTy.bf16 (BitVec.ofBool (decide p)) : EReal) = if p then 1 else 0 := by
  by_cases h : p
  · rw [if_pos h, decide_eq_true h]
    show (((1#1 : BitVec 1).toNat : ℝ) : EReal) = 1
    simp
  · rw [if_neg h, decide_eq_false h]
    show (((0#1 : BitVec 1).toNat : ℝ) : EReal) = 0
    simp

include g

/-- The code of a key. -/
theorem code_at (t : Fin 24) (n : Fin 4) (k : Fin 512) (h : Fin 8) :
    val_main_v3 (F := Ideal) A.kc (ix4 t n k h) = BitVec.ofNat 32 (A.cd t h (512 * n.val + k.val)).val := by
  pointwise [val_main_v3]
  refine (Args.kc_eq g _).trans ?_
  show _ = BitVec.ofNat 32 ((A.kc (ix3 t (Args.pos (512 * n.val + k.val)) h)).toNat % 384)
  exact congrArg (fun p => BitVec.ofNat 32 ((A.kc (ix3 t p h)).toNat % 384)) (pos_key n k).symm

/-- The one-hot of a key's code. -/
theorem hot_at (t : Fin 24) (n : Fin 4) (k : Fin 512) (h : Fin 8) (c : Fin 384) :
    val_main_v4 (F := Ideal) A.kc (ix5 t n k h c) = if A.cd t h (512 * n.val + k.val) = c then 1 else 0 := by
  pointwise [val_main_v4, val_main_call0_v4, val_main_call0_v3, val_main_call0_v2, val_main_call0_v1, val_main_call0_v0]
  rw [code_at g]
  rw [Pay.eq_word _ _ (by omega) (by omega), bit_val]
  exact if_congr Fin.ext_iff.symm rfl rfl

/-- The sums of one block. -/
theorem du_at (t : Fin 24) (n : Fin 4) (h : Fin 8) (c : Fin 384) (d : Fin 128) :
    val_main_v8 (F := Ideal) A.kc A.vs A.v (ix5 t n h c d)
      = (∑ k : Fin 512, if A.cd t h (512 * n.val + k.val) = c then A.vd t h (512 * n.val + k.val) d else 0)
        * ((A.vr t h n.val : ℝ) : EReal) := by
  pointwise [val_main_v8, val_main_v7, val_main_v6, val_main_v5, val_main_v2]
  rw [← Args.vs_eq t h g, Args.blk_val]
  refine congrArg₂ (· * ·) (Finset.sum_congr rfl fun k _ => ?_) rfl
  rw [hot_at g]
  unfold Args.vd
  rw [pos_key]
  split_ifs
  · exact one_mul _
  · exact zero_mul _

/-- The counts of one block. -/
theorem dcnt_at (t : Fin 24) (n : Fin 4) (h : Fin 8) (c : Fin 384) :
    val_main_v10 (F := Ideal) A.kc (ix4 t n h c)
      = ((∑ k : Fin 512, if A.cd t h (512 * n.val + k.val) = c then 1 else 0 : ℝ) : EReal) := by
  pointwise [val_main_v10, val_main_v9, val_main_cst]
  rw [Attn.coe_sum]
  refine Finset.sum_congr rfl fun k _ => ?_
  rw [hot_at g]
  split_ifs <;> simp

/-- One block's counts on top of the counts before it. -/
theorem cnt_step (t : Fin 24) (n : Fin 4) (h : Fin 8) (c : Fin 384) :
    ((A.cnt t h (512 * n.val) c : ℝ) : EReal) + val_main_v10 (F := Ideal) A.kc (ix4 t n h c)
      = ((A.cnt t h (512 * (n.val + 1)) c : ℝ) : EReal) := by
  rw [dcnt_at g, ← EReal.coe_add, Nat.mul_succ]
  unfold Args.cnt
  rw [Count.cnt_block]

/-- One block's sums on top of the sums before it. -/
theorem sum_step (t : Fin 24) (n : Fin 4) (h : Fin 8) (c : Fin 384) (d : Fin 128) :
    A.sum t h d (512 * n.val) c + val_main_v8 (F := Ideal) A.kc A.vs A.v (ix5 t n h c d)
      = A.sum t h d (512 * (n.val + 1)) c := by
  rw [du_at g, Nat.mul_succ]
  unfold Args.sum
  rw [Count.sum_block _ _ _ _ _ (A.vr t h n.val) (Args.vr_nn t h g _) (fun j => ?_)]
  show A.vr t h _ = _
  congr 1
  omega

/-- The counts before the first block are the initial counts. -/
theorem cnt_zero (t : Fin 24) (h : Fin 8) (c : Fin 384) : A.n0 (ix3 t h c) = ((A.cnt t h 0 c : ℝ) : EReal) := by
  rw [Args.n0_eq t h g]; unfold Args.cnt Count.cnt; simp

omit g in
/-- The sums before the first block are the initial sums. -/
theorem sum_zero (t : Fin 24) (h : Fin 8) (c : Fin 384) (d : Fin 128) : A.u0 (ix4 t h c d) = A.sum t h d 0 c := by
  unfold Args.sum Count.sum Args.ur; simp

/-- The reference's counts after the first block. -/
theorem cnt_1 (t : Fin 24) (h : Fin 8) (c : Fin 384) :
    val_main_v16 (F := Ideal) A.kc A.n0 (ix3 t h c) = ((A.cnt t h 512 c : ℝ) : EReal) := by
  pointwise [val_main_v16, val_main_v15, val_main_v14]
  rw [cnt_zero g]; exact cnt_step g t 0 h c

/-- The reference's counts after the second block. -/
theorem cnt_2 (t : Fin 24) (h : Fin 8) (c : Fin 384) :
    val_main_v22 (F := Ideal) A.kc A.n0 (ix3 t h c) = ((A.cnt t h 1024 c : ℝ) : EReal) := by
  pointwise [val_main_v22, val_main_v21, val_main_v20]
  rw [cnt_1 g]; exact cnt_step g t 1 h c

/-- The reference's counts after the third block. -/
theorem cnt_3 (t : Fin 24) (h : Fin 8) (c : Fin 384) :
    val_main_v28 (F := Ideal) A.kc A.n0 (ix3 t h c) = ((A.cnt t h 1536 c : ℝ) : EReal) := by
  pointwise [val_main_v28, val_main_v27, val_main_v26]
  rw [cnt_2 g]; exact cnt_step g t 2 h c

/-- The reference's third result: the counts after the last key. -/
theorem cnt_final (t : Fin 24) (h : Fin 8) (c : Fin 384) :
    val_main_v109 (F := Ideal) A.kc A.n0 (ix4 t h 0 c) = ((A.cnt t h 2048 c : ℝ) : EReal) := by
  pointwise [val_main_v109, val_main_v34, val_main_v33, val_main_v32]
  rw [cnt_3 g]; exact cnt_step g t 3 h c

/-- The reference's sums after the first block. -/
theorem sum_1 (t : Fin 24) (h : Fin 8) (c : Fin 384) (d : Fin 128) :
    val_main_v13 (F := Ideal) A.kc A.vs A.u0 A.v (ix4 t h c d) = A.sum t h d 512 c := by
  pointwise [val_main_v13, val_main_v12, val_main_v11]
  rw [sum_zero]; exact sum_step g t 0 h c d

/-- The reference's sums after the second block. -/
theorem sum_2 (t : Fin 24) (h : Fin 8) (c : Fin 384) (d : Fin 128) :
    val_main_v19 (F := Ideal) A.kc A.vs A.u0 A.v (ix4 t h c d) = A.sum t h d 1024 c := by
  pointwise [val_main_v19, val_main_v18, val_main_v17]
  rw [sum_1 g]; exact sum_step g t 1 h c d

/-- The reference's sums after the third block. -/
theorem sum_3 (t : Fin 24) (h : Fin 8) (c : Fin 384) (d : Fin 128) :
    val_main_v25 (F := Ideal) A.kc A.vs A.u0 A.v (ix4 t h c d) = A.sum t h d 1536 c := by
  pointwise [val_main_v25, val_main_v24, val_main_v23]
  rw [sum_2 g]; exact sum_step g t 2 h c d

/-- The reference's second result: the sums after the last key. -/
theorem sum_final (t : Fin 24) (h : Fin 8) (c : Fin 384) (d : Fin 128) :
    val_main_v31 (F := Ideal) A.kc A.vs A.u0 A.v (ix4 t h c d) = A.sum t h d 2048 c := by
  pointwise [val_main_v31, val_main_v30, val_main_v29]
  rw [sum_3 g]; exact sum_step g t 3 h c d

/-- The counts before block `n`. -/
theorem cnts_at (t : Fin 24) (n : Fin 4) (h : Fin 8) (c : Fin 384) :
    val_main_v44 (F := Ideal) A.kc A.n0 (ix4 t n h c) = ((A.cnt t h (512 * n.val) c : ℝ) : EReal) := by
  pointwise [val_main_v44, val_main_v43, val_main_v42, val_main_v41, val_main_v40]
  rw [cnt_zero g, cnt_1 g, cnt_2 g, cnt_3 g]
  fin_cases n <;> rfl

/-- The sums before block `n`. -/
theorem sums_at (t : Fin 24) (n : Fin 4) (h : Fin 8) (c : Fin 384) (d : Fin 128) :
    val_main_v39 (F := Ideal) A.kc A.vs A.u0 A.v (ix5 t n h c d) = A.sum t h d (512 * n.val) c := by
  pointwise [val_main_v39, val_main_v38, val_main_v37, val_main_v36, val_main_v35]
  rw [sum_zero, sum_1 g, sum_2 g, sum_3 g]
  fin_cases n <;> rfl

/-- The score of a query and a code. -/
theorem score_at (t : Fin 24) (n : Fin 4) (h : Fin 8) (r : Fin 512) (c : Fin 384) :
    val_main_v59 (F := Ideal) A.qs A.cb A.q (ix5 t n h r c)
      = A.dot t h (key n r) c * ((A.qr t h n.val * (Real.sqrt 128)⁻¹ : ℝ) : EReal) := by
  pointwise [val_main_v59, val_main_v58, val_main_v57, val_main_v56, val_main_v55, val_main_v54, val_main_cst_0, val_main_v53, val_main_v52, val_main_v1]
  refine congrArg₂ (· * ·) rfl ?_
  rw [← Args.blk_val n, Args.qs_eq t h g, Args.blk_val]
  have h1 : Ideal.ofBits FTy.f32 1124073472#32 = ((128 : ℝ) : EReal) := by
    simp [Ideal.ofBits, Ideal.ieee]
    rw [← EReal.coe_mul]
    norm_num
  rw [h1]
  have h2 : Ideal.sqrt ((128 : ℝ) : EReal) = ((Real.sqrt 128 : ℝ) : EReal) := by
    show (if (128 : ℝ) < 0 then (⊥ : EReal) else ((Real.sqrt 128 : ℝ) : EReal)) = _
    rw [if_neg (by norm_num)]
  rw [h2, Ideal.div_coe (Real.sqrt_ne_zero'.mpr (by norm_num)), ← EReal.coe_mul, one_div]

end Cert.Proof.Ref
-- ==== Proof.RefTake.lean ====
/- The reference's results at an index: the attention output. -/
module

public import proofs.«01_k».proof.Proof.RefState
public import proofs.«01_k».proof.Proof.Gen.ReferenceIdeal.Read
public import Idealize.ShloMosaic.Lib.Pointwise

@[expose] public section

set_option maxRecDepth 16384

noncomputable section

namespace Cert.Proof.Ref

open Cert.ReferenceIdeal Cert.ReferenceIdeal.Gen Cert.ReferenceIdeal.Read Idealize.ShloMosaic Idealize.ShloMosaic.TcCoe
open Idealize.SL.Sem

variable {A : Args} (g : A.Sane)

/-- Whether key `k` comes no later than query `r`. -/
theorem causal_at (r k : Fin 512) : val_main_v51 (F := Ideal) (ix2 r k) = BitVec.ofBool (decide (k.val ≤ r.val)) := by
  pointwise [val_main_v51, val_main_v50, val_main_v49, val_main_v48, val_main_v47, val_main_v46, val_main_v45]
  exact Pay.sle_word k.val r.val (by omega) (by omega)

/-- The mask of the scores, at every block and head: the causal one. -/
theorem mask2_at (t : Fin 24) (n : Fin 4) (h : Fin 8) (r k : Fin 512) :
    val_main_call2_v1 (F := Ideal) (ix5 t n h r k) = BitVec.ofBool (decide (k.val ≤ r.val)) := by
  rw [val_main_call2_v1_apply, ← causal_at]
  exact congrArg _ (funext fun a => Fin.ext (match a with | ⟨0, _⟩ => rfl | ⟨1, _⟩ => rfl))

/-- The mask of the weights, at every block and head: the causal one. -/
theorem mask4_at (t : Fin 24) (n : Fin 4) (h : Fin 8) (r k : Fin 512) :
    val_main_call4_v1 (F := Ideal) (ix5 t n h r k) = BitVec.ofBool (decide (k.val ≤ r.val)) := by
  rw [val_main_call4_v1_apply, ← causal_at]
  exact congrArg _ (funext fun a => Fin.ext (match a with | ⟨0, _⟩ => rfl | ⟨1, _⟩ => rfl))

/-- The word of minus infinity means minus infinity. -/
theorem neg_inf : Ideal.ofBits FTy.f32 4286578688#32 = ⊥ := by simp [Ideal.ofBits, Ideal.ieee]

/-- A masked score of a key is minus infinity. -/
theorem low2 (i : S24x4x8x512x512.Idx) : val_main_call2_v2 (F := Ideal) i = ⊥ := by
  rw [val_main_call2_v2_apply]; exact neg_inf

/-- A masked weight of a key is zero. -/
theorem zero4 (i : S24x4x8x512x512.Idx) : val_main_call4_v2 (F := Ideal) i = 0 := by
  rw [val_main_call4_v2_apply]
  show Ideal.ofBits FTy.f32 0#32 = 0
  simp [Ideal.ofBits, Ideal.ieee]

/-- A masked score of a code is minus infinity. -/
theorem low3 (i : S24x4x8x512x384.Idx) : val_main_call3_v2 (F := Ideal) i = ⊥ := by
  rw [val_main_call3_v2_apply]; exact neg_inf

/-- A masked weight of a code is zero. -/
theorem zero5 (i : S24x4x8x512x384.Idx) : val_main_call5_v2 (F := Ideal) i = 0 := by
  rw [val_main_call5_v2_apply]
  show Ideal.ofBits FTy.f32 0#32 = 0
  simp [Ideal.ofBits, Ideal.ieee]

/-- A conjunction of ones is one. -/
theorem and_ones {ι : Type} [DecidableEq ι] (s : Finset ι) (f : ι → BitVec 1) (hf : ∀ x ∈ s, f x = 1#1) :
    s.fold IntOp.andi 1#1 f = 1#1 := by
  induction s using Finset.induction_on with
  | empty => rfl
  | insert a s ha ih =>
    rw [Finset.fold_insert ha, hf a (Finset.mem_insert_self a s), ih fun x hx => hf x (Finset.mem_insert_of_mem hx)]
    rfl

include g

/-- Whether code `c` was counted before block `n`. -/
theorem occ_at (t : Fin 24) (n : Fin 4) (h : Fin 8) (c : Fin 384) :
    val_main_v65 (F := Ideal) A.kc A.n0 (ix4 t n h c) = BitVec.ofBool (decide (0 < A.cnt t h (512 * n.val) c)) := by
  pointwise [val_main_v65, val_main_v64, val_main_cst_1]
  rw [cnts_at g]
  refine congrArg BitVec.ofBool (Bool.eq_iff_iff.mpr ?_)
  rw [decide_eq_true_eq, decide_eq_true_eq]
  exact EReal.coe_pos

/-- The mask of the codes' scores: whether the code was counted before the block. -/
theorem occ3_at (t : Fin 24) (n : Fin 4) (h : Fin 8) (r : Fin 512) (c : Fin 384) :
    val_main_call3_v1 (F := Ideal) A.kc A.n0 (ix5 t n h r c)
      = BitVec.ofBool (decide (0 < A.cnt t h (512 * n.val) c)) := by
  pointwise [val_main_call3_v1, val_main_v66]
  exact occ_at g t n h c

/-- The mask of the codes' weights: whether the code was counted before the block. -/
theorem occ5_at (t : Fin 24) (n : Fin 4) (h : Fin 8) (r : Fin 512) (c : Fin 384) :
    val_main_call5_v1 (F := Ideal) A.kc A.n0 (ix5 t n h r c)
      = BitVec.ofBool (decide (0 < A.cnt t h (512 * n.val) c)) := by
  pointwise [val_main_call5_v1, val_main_v66]
  exact occ_at g t n h c

/-- The index a query's score is taken at: the key's code. -/
theorem word_at (t : Fin 24) (n : Fin 4) (h : Fin 8) (r k : Fin 512) (o : Fin 1) :
    val_main_call1_v5 (F := Ideal) A.kc (ix6 t n h r k o)
      = BitVec.ofNat 32 (A.cd t h (512 * n.val + k.val)).val := by
  pointwise [val_main_call1_v5, val_main_call1_v4, val_main_call1_v3, val_main_call1_v2, val_main_call1_v1,
    val_main_call1_v0, val_main_call1_c_0, val_main_call1_c, val_main_v62, val_main_v61, val_main_v60]
  rw [code_at g]
  have hs : IntOp.cmpi .slt (BitVec.ofNat 32 (A.cd t h (512 * n.val + k.val)).val) 0#32 = BitVec.ofBool (decide _) :=
    Pay.slt_word _ 0 (by omega) (by norm_num)
  rw [hs, Pay.select_dec, if_neg (by omega)]

omit g in
/-- Reading an array of scores along its last axis at an array of words. -/
theorem gather_at (x : S24x4x8x512x384.Idx → EReal) (w : IVec S24x4x8x512x512x1 32) (t : Fin 24) (n : Fin 4) (h : Fin 8)
    (r k : Fin 512) (c : Fin 384) (hc : w (ix6 t n h r k 0) = BitVec.ofNat 32 c.val) :
    Host.gather gather_S24x4x8x512x384_S24x4x8x512x512x1_S24x4x8x512x512_n_4_0123_0123_4_5_11111 x w (ix5 t n h r k)
      = x (ix5 t n h r c) := by
  unfold Host.gather
  refine congrArg x (funext fun a => Fin.ext ?_)
  show GatherDims.start _ (ix5 t n h r k) w a + GatherDims.batchCoord _ (ix5 t n h r k) a
      + GatherDims.offCoord _ (ix5 t n h r k) a = _
  have hb : ∀ a : Fin 5, a.val < 4 → a ∈ (gather_S24x4x8x512x384_S24x4x8x512x512x1_S24x4x8x512x512_n_4_0123_0123_4_5_11111).operandBatchingDims := by
    decide
  have h4 : (4 : Fin 5) ∈ (gather_S24x4x8x512x384_S24x4x8x512x512x1_S24x4x8x512x512_n_4_0123_0123_4_5_11111).collapsedSliceDims := by
    decide
  by_cases ha : a.val < 4
  · rw [GatherDims.start_batching _ _ _ _ (hb a ha),
      GatherDims.offCoord_eq_zero _ _ _ (fun h => ((GatherDims.mem_sKept _ _).mp h).2 (hb a ha))]
    simp only [Nat.zero_add, Nat.add_zero]
    unfold GatherDims.batchCoord
    rw [dif_pos (hb a ha)]
    match a, ha with
    | ⟨0, _⟩, _ => rfl
    | ⟨1, _⟩, _ => rfl
    | ⟨2, _⟩, _ => rfl
    | ⟨3, _⟩, _ => rfl
  · obtain rfl : a = (4 : Fin 5) := Fin.ext (by have : a.val < 5 := a.isLt; show a.val = 4; omega)
    rw [GatherDims.batchCoord_eq_zero _ _ _ (by decide),
      GatherDims.offCoord_eq_zero _ _ _ (fun h => ((GatherDims.mem_sKept _ _).mp h).1 h4)]
    simp only [Nat.add_zero]
    unfold GatherDims.start
    rw [dif_pos (by decide)]
    have hsi : GatherDims.siIdx gather_S24x4x8x512x384_S24x4x8x512x512x1_S24x4x8x512x512_n_4_0123_0123_4_5_11111
        (ix5 t n h r k) ⟨List.idxOf (4 : Fin 5)
          (gather_S24x4x8x512x384_S24x4x8x512x512x1_S24x4x8x512x512_n_4_0123_0123_4_5_11111).startIndexMap,
          List.idxOf_lt_length_iff.2 (by decide)⟩ = ix6 t n h r k 0 := by
      funext b; refine Fin.ext ?_
      match b with
      | ⟨0, _⟩ => rfl
      | ⟨1, _⟩ => rfl
      | ⟨2, _⟩ => rfl
      | ⟨3, _⟩ => rfl
      | ⟨4, _⟩ => rfl
      | ⟨5, _⟩ => rfl
    rw [hsi, hc, Pay.toInt_small c.val (by omega)]
    show min c.val (384 - 1) = c.val
    omega

/-- The score of a query and a key. -/
theorem take_at (t : Fin 24) (n : Fin 4) (h : Fin 8) (r k : Fin 512) :
    val_main_v63 (F := Ideal) A.qs A.kc A.cb A.q (ix5 t n h r k)
      = A.dot t h (key n r) (A.cd t h (512 * n.val + k.val)) * ((A.qr t h n.val * (Real.sqrt 128)⁻¹ : ℝ) : EReal) := by
  pointwise [val_main_v63, val_main_call1_v12, val_main_call1_v11, val_main_call1_v10, val_main_call1_v9,
    val_main_call1_v8, val_main_call1_v7, val_main_call1_v6, val_main_call1_c_1, val_main_call1_c_2, val_main_call1_c_3]
  rw [and_ones _ _ ?_]
  · show val_main_call1_v13 (F := Ideal) A.qs A.kc A.cb A.q (ix5 t n h r k) = _
    unfold val_main_call1_v13
    exact (gather_at _ _ t n h r k _ (word_at g t n h r k 0)).trans (score_at g t n h r _)
  · intro x _
    idx_vars x
    rw [word_at g]
    have h1 : IntOp.cmpi .sge (BitVec.ofNat 32 (A.cd x0 x2 (512 * x1.val + x4.val)).val) 0#32 = BitVec.ofBool (decide _) :=
      Pay.sle_word 0 (A.cd x0 x2 (512 * x1.val + x4.val)).val (by norm_num) (by omega)
    have h2 : IntOp.cmpi .sle (BitVec.ofNat 32 (A.cd x0 x2 (512 * x1.val + x4.val)).val) 383#32 = BitVec.ofBool (decide _) :=
      Pay.sle_word _ 383 (by omega) (by norm_num)
    rw [h1, h2, decide_eq_true (by omega), decide_eq_true (by omega)]
    rfl

end Cert.Proof.Ref
-- ==== Proof.RefTop.lean ====
/- The reference's results at an index: a query's greatest score and its weights of the keys. -/
module

public import proofs.«01_k».proof.Proof.RefTake
public import proofs.«01_k».proof.Proof.Gen.ReferenceIdeal.Read
public import Idealize.ShloMosaic.Lib.Pointwise

@[expose] public section

set_option maxRecDepth 16384

noncomputable section

namespace Cert.Proof.Ref

open Cert.ReferenceIdeal Cert.ReferenceIdeal.Gen Cert.ReferenceIdeal.Read Idealize.ShloMosaic Idealize.ShloMosaic.TcCoe
open Idealize.SL.Sem

variable {A : Args} (g : A.Sane)

/-- The scale of the scores of block `n`. -/
abbrev sc (A : Args) (t : Fin 24) (n : Fin 4) (h : Fin 8) : ℝ := A.qr t h n.val * (Real.sqrt 128)⁻¹

/-- Entry of the masked weights of the keys: the exponential of the score less the maximum, where visible. -/
theorem weight (b : IVec S24x4x8x512x512 1) (y l : FVec Ideal S24x4x8x512x512 .f32) (z : FVec Ideal S24x4x8x512x1 .f32)
    (t : Fin 24) (n : Fin 4) (h : Fin 8) (r k : Fin 512) :
    select b (Host.exp (subf y (broadcastInDim S24x4x8x512x512 ![0, 1, 2, 3, 4]
        bcast_S24x4x8x512x1_S24x4x8x512x512_0_1_2_3_4 z))) l (ix5 t n h r k)
      = Scalar.select (b (ix5 t n h r k)) (Ideal.exp (y (ix5 t n h r k) - z (ix5 t n h r 0))) (l (ix5 t n h r k)) := by
  pointwise

/-- The weight of a key as its operations compute it. -/
theorem e_eq (t : Fin 24) (n : Fin 4) (h : Fin 8) (r k : Fin 512) :
    val_main_v77 (F := Ideal) A.qs A.kc A.cb A.n0 A.q (ix5 t n h r k)
      = Scalar.select (val_main_call4_v1 (F := Ideal) (ix5 t n h r k))
          (Ideal.exp (val_main_v63 (F := Ideal) A.qs A.kc A.cb A.q (ix5 t n h r k)
            - val_main_v73 (F := Ideal) A.qs A.kc A.cb A.n0 A.q (ix5 t n h r 0)))
          (val_main_call4_v2 (F := Ideal) (ix5 t n h r k)) := by
  unfold val_main_v77 val_main_v76 val_main_v75 val_main_v74
  generalize val_main_v63 (F := Ideal) A.qs A.kc A.cb A.q = y
  generalize val_main_v73 (F := Ideal) A.qs A.kc A.cb A.n0 A.q = z
  generalize val_main_call4_v1 (F := Ideal) = b4
  generalize val_main_call4_v2 (F := Ideal) = l4
  exact weight b4 y l4 z t n h r k

/-- Entry of the maximum over the keys. -/
theorem max_keys (y : FVec Ideal S24x4x8x512x512 .f32) (t : Fin 24) (n : Fin 4) (h : Fin 8) (r : Fin 512) :
    Host.reduce FloatOps.maximumf y (val_main_cst_3 (F := Ideal)) reducesTo_S24x4x8x512x512_S24x4x8x512_d4 h_S_ (ix4 t n h r)
      = Finset.univ.fold max ⊥ fun k : Fin 512 => y (ix5 t n h r k) := by
  pointwise [val_main_cst_3]
  rw [neg_inf]

/-- Entry of the maximum over the codes. -/
theorem max_codes (y : FVec Ideal S24x4x8x512x384 .f32) (t : Fin 24) (n : Fin 4) (h : Fin 8) (r : Fin 512) :
    Host.reduce FloatOps.maximumf y (val_main_cst_5 (F := Ideal)) reducesTo_S24x4x8x512x384_S24x4x8x512_d4 h_S_ (ix4 t n h r)
      = Finset.univ.fold max ⊥ fun c : Fin 384 => y (ix5 t n h r c) := by
  pointwise [val_main_cst_5]
  rw [neg_inf]

/-- Entry of the larger of the two maxima. -/
theorem max_both (y z : FVec Ideal S24x4x8x512 .f32) (t : Fin 24) (n : Fin 4) (h : Fin 8) (r : Fin 512) (o : Fin 1) :
    (maximumf (broadcastInDim S24x4x8x512x1 ![0, 1, 2, 3] bcast_S24x4x8x512_S24x4x8x512x1_0_1_2_3 y)
        (broadcastInDim S24x4x8x512x1 ![0, 1, 2, 3] bcast_S24x4x8x512_S24x4x8x512x1_0_1_2_3 z)
        : FVec Ideal S24x4x8x512x1 .f32) (ix5 t n h r o)
      = max (y (ix4 t n h r)) (z (ix4 t n h r)) := by
  pointwise

/-- The greatest score of the keys a query sees. -/
theorem topk_eq (t : Fin 24) (n : Fin 4) (h : Fin 8) (r : Fin 512) :
    val_main_v68 (F := Ideal) A.qs A.kc A.cb A.q (ix4 t n h r)
      = Finset.univ.fold max ⊥ fun k : Fin 512 => Scalar.select (val_main_call2_v1 (F := Ideal) (ix5 t n h r k))
          (val_main_v63 (F := Ideal) A.qs A.kc A.cb A.q (ix5 t n h r k)) (val_main_call2_v2 (F := Ideal) (ix5 t n h r k)) := by
  unfold val_main_v68 val_main_v67
  generalize val_main_v63 (F := Ideal) A.qs A.kc A.cb A.q = y
  generalize val_main_call2_v1 (F := Ideal) = b
  generalize val_main_call2_v2 (F := Ideal) = l
  exact max_keys (select b y l) t n h r

/-- The greatest score of the codes counted before a query's block. -/
theorem topc_eq (t : Fin 24) (n : Fin 4) (h : Fin 8) (r : Fin 512) :
    val_main_v71 (F := Ideal) A.qs A.kc A.cb A.n0 A.q (ix4 t n h r)
      = Finset.univ.fold max ⊥ fun c : Fin 384 => Scalar.select (val_main_call3_v1 (F := Ideal) A.kc A.n0 (ix5 t n h r c))
          (val_main_v59 (F := Ideal) A.qs A.cb A.q (ix5 t n h r c)) (val_main_call3_v2 (F := Ideal) (ix5 t n h r c)) := by
  unfold val_main_v71 val_main_v70
  generalize val_main_v59 (F := Ideal) A.qs A.cb A.q = y
  generalize val_main_call3_v1 (F := Ideal) A.kc A.n0 = b
  generalize val_main_call3_v2 (F := Ideal) = l
  exact max_codes (select b y l) t n h r

/-- The maximum the reference subtracts: the larger of that of the visible keys' scores and that of the counted codes' scores. -/
theorem top_eq (t : Fin 24) (n : Fin 4) (h : Fin 8) (r : Fin 512) (o : Fin 1) :
    val_main_v73 (F := Ideal) A.qs A.kc A.cb A.n0 A.q (ix5 t n h r o)
      = max (val_main_v68 (F := Ideal) A.qs A.kc A.cb A.q (ix4 t n h r))
          (val_main_v71 (F := Ideal) A.qs A.kc A.cb A.n0 A.q (ix4 t n h r)) := by
  unfold val_main_v73 val_main_v72 val_main_v69
  generalize val_main_v68 (F := Ideal) A.qs A.kc A.cb A.q = y
  generalize val_main_v71 (F := Ideal) A.qs A.kc A.cb A.n0 A.q = z
  exact max_both y z t n h r o

include g

/-- A query's weight of a key. -/
theorem e_at (t : Fin 24) (n : Fin 4) (h : Fin 8) (r k : Fin 512) :
    val_main_v77 (F := Ideal) A.qs A.kc A.cb A.n0 A.q (ix5 t n h r k)
      = if k.val ≤ r.val then Ideal.exp (A.dot t h (key n r) (A.cd t h (512 * n.val + k.val)) * (sc A t n h : EReal)
          - val_main_v73 (F := Ideal) A.qs A.kc A.cb A.n0 A.q (ix5 t n h r 0)) else 0 := by
  rw [e_eq, mask4_at, Pay.select_dec, take_at g, zero4]

/-- A query's greatest score among the keys it sees and the codes counted before its block. -/
theorem top_at (t : Fin 24) (n : Fin 4) (h : Fin 8) (r : Fin 512) (o : Fin 1) :
    val_main_v73 (F := Ideal) A.qs A.kc A.cb A.n0 A.q (ix5 t n h r o)
      = max (Finset.univ.fold max ⊥ fun k : Fin 512 => if k.val ≤ r.val then
            A.dot t h (key n r) (A.cd t h (512 * n.val + k.val)) * (sc A t n h : EReal) else ⊥)
          (Finset.univ.fold max ⊥ fun c : Fin 384 => if 0 < A.cnt t h (512 * n.val) c then
            A.dot t h (key n r) c * (sc A t n h : EReal) else ⊥) := by
  rw [top_eq, topk_eq, topc_eq]
  refine congrArg₂ max (congrArg (fun f => Finset.univ.fold max ⊥ f) (funext fun k => ?_))
    (congrArg (fun f => Finset.univ.fold max ⊥ f) (funext fun c => ?_))
  · rw [mask2_at, Pay.select_dec, take_at g, low2]
  · rw [occ3_at g, Pay.select_dec, score_at g, low3]

end Cert.Proof.Ref
-- ==== Proof.RefOut.lean ====
/- The reference's results at an index: the attention output. -/
module

public import proofs.«01_k».proof.Proof.RefTop
public import proofs.«01_k».proof.Proof.Gen.ReferenceIdeal.Read
public import Idealize.ShloMosaic.Lib.Pointwise

@[expose] public section

set_option maxRecDepth 16384

noncomputable section

namespace Cert.Proof.Ref

open Cert.ReferenceIdeal Cert.ReferenceIdeal.Gen Cert.ReferenceIdeal.Read Idealize.ShloMosaic Idealize.ShloMosaic.TcCoe
open Idealize.SL.Sem

variable {A : Args} (g : A.Sane)
include g

/-- A query's weight of a code. -/
theorem w_at (t : Fin 24) (n : Fin 4) (h : Fin 8) (r : Fin 512) (c : Fin 384) :
    val_main_v81 (F := Ideal) A.qs A.kc A.cb A.n0 A.q (ix5 t n h r c)
      = if 0 < A.cnt t h (512 * n.val) c then Ideal.exp (A.dot t h (key n r) c * (sc A t n h : EReal)
          - val_main_v73 (F := Ideal) A.qs A.kc A.cb A.n0 A.q (ix5 t n h r 0)) else 0 := by
  pointwise [val_main_v81, val_main_v80, val_main_v79, val_main_v78]
  rw [occ5_at g, Pay.select_dec, score_at g, zero5]

/-- One over a query's total weight. -/
theorem inv_at (t : Fin 24) (n : Fin 4) (h : Fin 8) (r : Fin 512) (o : Fin 1) :
    val_main_v91 (F := Ideal) A.qs A.kc A.cb A.n0 A.q (ix5 t n h r o)
      = Ideal.div 1 ((∑ k : Fin 512, val_main_v77 (F := Ideal) A.qs A.kc A.cb A.n0 A.q (ix5 t n h r k))
        + ∑ c : Fin 384, val_main_v81 (F := Ideal) A.qs A.kc A.cb A.n0 A.q (ix5 t n h r c)
            * ((A.cnt t h (512 * n.val) c : ℝ) : EReal)) := by
  pointwise [val_main_v91, val_main_v90, val_main_cst_10, val_main_v89, val_main_v88, val_main_v87, val_main_v86,
    val_main_v85, val_main_v84, val_main_v83, val_main_v82, val_main_cst_9, val_main_cst_8]
  refine congrArg (Ideal.div 1) (congrArg₂ (· + ·) rfl (Finset.sum_congr rfl fun c _ => ?_))
  rw [cnts_at g]

/-- The reference's attention of query `r` of block `n`: attention over the counts and sums after the query. -/
theorem att_at (t : Fin 24) (n : Fin 4) (h : Fin 8) (r : Fin 512) (d : Fin 128) :
    (∑ k : Fin 512, A.vd t h (512 * n.val + k.val) d
        * (val_main_v77 (F := Ideal) A.qs A.kc A.cb A.n0 A.q (ix5 t n h r k)
          * val_main_v91 (F := Ideal) A.qs A.kc A.cb A.n0 A.q (ix5 t n h r 0))) * ((A.vr t h n.val : ℝ) : EReal)
      + ∑ c : Fin 384, A.sum t h d (512 * n.val) c
        * (val_main_v81 (F := Ideal) A.qs A.kc A.cb A.n0 A.q (ix5 t n h r c)
          * val_main_v91 (F := Ideal) A.qs A.kc A.cb A.n0 A.q (ix5 t n h r 0))
      = A.att t h (key n r) d := by
  have ha : 0 < sc A t n h := mul_pos (Args.qr_pos t h g _) (inv_pos.mpr (Real.sqrt_pos.mpr (by norm_num)))
  have hv : ∀ j : Fin 512, Model.vsAt (A.vr t h) (512 * n.val + j.val) = A.vr t h n.val := fun j => by
    show A.vr t h _ = A.vr t h _
    congr 1
    omega
  have hm := top_at g t n h r 0
  have hk : ∀ k : Fin 512, k.val ≤ r.val → A.dot t h (key n r) (A.cd t h (512 * n.val + k.val)) * (sc A t n h : EReal)
      ≤ val_main_v73 (F := Ideal) A.qs A.kc A.cb A.n0 A.q (ix5 t n h r 0) := fun k hk => by
    rw [hm]
    refine le_trans ?_ (le_max_left _ _)
    refine le_trans (le_of_eq ?_) (Model.fold_le (fun k : Fin 512 => if k.val ≤ r.val then
      A.dot t h (key n r) (A.cd t h (512 * n.val + k.val)) * (sc A t n h : EReal) else ⊥) k)
    exact (if_pos hk).symm
  have hc : ∀ c : Fin 384, 0 < A.cnt t h (512 * n.val) c → A.dot t h (key n r) c * (sc A t n h : EReal)
      ≤ val_main_v73 (F := Ideal) A.qs A.kc A.cb A.n0 A.q (ix5 t n h r 0) := fun c hc => by
    rw [hm]
    refine le_trans ?_ (le_max_right _ _)
    refine le_trans (le_of_eq ?_) (Model.fold_le (fun c : Fin 384 => if 0 < A.cnt t h (512 * n.val) c then
      A.dot t h (key n r) c * (sc A t n h : EReal) else ⊥) c)
    exact (if_pos hc).symm
  have hat : (∃ k : Fin 512, k.val ≤ r.val ∧ val_main_v73 (F := Ideal) A.qs A.kc A.cb A.n0 A.q (ix5 t n h r 0)
        = A.dot t h (key n r) (A.cd t h (512 * n.val + k.val)) * (sc A t n h : EReal))
      ∨ ∃ c : Fin 384, 0 < A.cnt t h (512 * n.val) c ∧ val_main_v73 (F := Ideal) A.qs A.kc A.cb A.n0 A.q (ix5 t n h r 0)
        = A.dot t h (key n r) c * (sc A t n h : EReal) := by
    have hbot : val_main_v73 (F := Ideal) A.qs A.kc A.cb A.n0 A.q (ix5 t n h r 0) = ⊥ →
        val_main_v73 (F := Ideal) A.qs A.kc A.cb A.n0 A.q (ix5 t n h r 0)
          = A.dot t h (key n r) (A.cd t h (512 * n.val + r.val)) * (sc A t n h : EReal) := fun e => by
      have h1 := hk r le_rfl
      rw [e] at h1 ⊢
      exact (le_bot_iff.mp h1).symm
    rcases max_choice (Finset.univ.fold max ⊥ fun k : Fin 512 => if k.val ≤ r.val then
            A.dot t h (key n r) (A.cd t h (512 * n.val + k.val)) * (sc A t n h : EReal) else ⊥)
          (Finset.univ.fold max ⊥ fun c : Fin 384 => if 0 < A.cnt t h (512 * n.val) c then
            A.dot t h (key n r) c * (sc A t n h : EReal) else ⊥) with e | e
    · obtain ⟨k, ek⟩ := Model.fold_att (fun k : Fin 512 => if k.val ≤ r.val then
            A.dot t h (key n r) (A.cd t h (512 * n.val + k.val)) * (sc A t n h : EReal) else ⊥)
      have e1 := hm.trans (e.trans ek)
      by_cases hv : k.val ≤ r.val
      · exact .inl ⟨k, hv, e1.trans (if_pos hv)⟩
      · exact .inl ⟨r, le_rfl, hbot (e1.trans (if_neg hv))⟩
    · obtain ⟨c, ec⟩ := Model.fold_att (fun c : Fin 384 => if 0 < A.cnt t h (512 * n.val) c then
            A.dot t h (key n r) c * (sc A t n h : EReal) else ⊥)
      have e1 := hm.trans (e.trans ec)
      by_cases hv : 0 < A.cnt t h (512 * n.val) c
      · exact .inr ⟨c, hv, e1.trans (if_pos hv)⟩
      · exact .inl ⟨r, le_rfl, hbot (e1.trans (if_neg hv))⟩
  have key1 := Attn.ref_attn (fun j : Fin 512 => A.cd t h (512 * n.val + j.val)) (fun j : Fin 512 => j.val ≤ r.val)
    (fun j : Fin 512 => A.vd t h (512 * n.val + j.val) d) (Args.vr_nn t h g n.val)
    (Count.cnt_nonneg (A.cd t h) (Args.nr_nn t h g) (512 * n.val))
    (Count.sum_zero (A.cd t h) (fun k => A.vd t h k d) (Model.vsAt (A.vr t h)) (Args.nr_nn t h g)
      (fun c => Args.ur_zero t h g c d) (512 * n.val)) ha (A.dot t h (key n r)) _ hk hc hat
    (fun k : Fin 512 => val_main_v77 (F := Ideal) A.qs A.kc A.cb A.n0 A.q (ix5 t n h r k)) (fun k => e_at g t n h r k)
    (fun c : Fin 384 => val_main_v81 (F := Ideal) A.qs A.kc A.cb A.n0 A.q (ix5 t n h r c)) (fun c => w_at g t n h r c)
  have e1 : (key n r).val / 512 = n.val := by show (n.val * 512 + r.val) / 512 = n.val; omega
  have e2 : (key n r).val + 1 = 512 * n.val + (r.val + 1) := by show n.val * 512 + r.val + 1 = _; omega
  unfold Args.att
  rw [e1, e2]
  unfold Args.sum
  unfold Args.cnt at key1 ⊢
  rw [Count.total_visible, Count.mass_visible _ _ _ _ _ _ _ hv] at key1
  refine Eq.trans ?_ key1
  rw [inv_at g]
  refine congrArg₂ (· + ·) (congrArg₂ (· * ·) (Finset.sum_congr rfl fun k _ => ?_) rfl)
    (Finset.sum_congr rfl fun c _ => ?_)
  · exact mul_comm _ _
  · exact mul_comm _ _

/-- The reference's first result. -/
theorem out_final (t : Fin 24) (i : Fin 2048) (y : Fin 1024) :
    val_main_v108 (F := Ideal) A.qs A.kc A.cb A.vs A.u0 A.n0 A.q A.v (ix3 t i y)
      = A.att t ⟨y.val / 128, by omega⟩ i ⟨y.val % 128, Nat.mod_lt _ (by norm_num)⟩ := by
  pointwise [val_main_v108, val_main_v107, val_main_v106, val_main_v105, val_main_v104, val_main_v103, val_main_v102,
    val_main_v101, val_main_v100, val_main_v99, val_main_v98, val_main_v97, val_main_v96, val_main_v95, val_main_v94,
    val_main_v93, val_main_v92, val_main_v2]
  have hi : key ⟨i.val / 512, by omega⟩ ⟨i.val % 512, Nat.mod_lt _ (by norm_num)⟩ = i :=
    Fin.ext (by show i.val / 512 * 512 + i.val % 512 = i.val; omega)
  refine Eq.trans ?_ ((att_at g t ⟨i.val / 512, by omega⟩ ⟨y.val / 128, by omega⟩
    ⟨i.val % 512, Nat.mod_lt _ (by norm_num)⟩ ⟨y.val % 128, Nat.mod_lt _ (by norm_num)⟩).trans (congrArg (fun i => A.att t _ i _) hi))
  refine congrArg₂ (· + ·) (congrArg₂ (· * ·) (Finset.sum_congr rfl fun k _ => congrArg₂ (· * ·) ?_ rfl) ?_)
    (Finset.sum_congr rfl fun c _ => congrArg₂ (· * ·) ?_ rfl)
  · unfold Args.vd
    rw [pos_key]
    rfl
  · rw [← Args.vs_eq _ _ g]
    exact congrArg (fun b => A.vs (ix3 t b _)) (Args.blk_val ⟨i.val / 512, by omega⟩).symm
  · exact sums_at g t ⟨i.val / 512, by omega⟩ _ c _

end Cert.Proof.Ref
-- ==== Proof.RefRegion.lean ====
/- What the reference's first stage leaves: the decoded queries and values, which over the extended reals are the arguments themselves. -/
module

public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.Proof.Ref

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

/-- The four windows of the decoding stage sit at the origin. -/
theorem ridx : ∀ t : Fin cfg0.N, win0_0.index t = ![0, 0, 0, 0] ∧ win0_1.index t = ![0, 0, 0, 0] ∧ win0_2.index t = ![0, 0, 0, 0] ∧ win0_3.index t = ![0, 0, 0, 0] :=
  (by decide +kernel : ∀ t : Fin grid0.N, _)

/-- The decoded queries are the queries. -/
theorem decoded_q (c : Dev nD) :
    Value.reg_main_v0_0 m c = (m ((c.tc : Thread nD τ).loc main_arg0) : S24x2048x8x128.Idx → EReal) := by
  unfold Value.reg_main_v0_0
  refine (dats m 0 c).arrAt_eq_of_covers 2 _ (by decide +kernel) fun t _ y => ?_
  blk_simp
  rw [after0_2]
  frame_out
  pointwise
  blk_ext [iblk, V, ridx t]

/-- The decoded values are the values. -/
theorem decoded_v (c : Dev nD) :
    Value.reg_main_v0_1 m c = (m ((c.tc : Thread nD τ).loc main_arg4) : S24x2048x8x128.Idx → EReal) := by
  unfold Value.reg_main_v0_1
  refine (dats m 0 c).arrAt_eq_of_covers 3 _ (by decide +kernel) fun t _ y => ?_
  blk_simp
  rw [after0_3]
  frame_out
  pointwise
  blk_ext [iblk, V, ridx t]

end Cert.Proof.Ref
-- ==== Proof.Same.lean ====
/- Both programs leave the same three arrays. -/
module

public import proofs.«01_k».proof.Defs
public import proofs.«01_k».proof.Proof.Arrays
public import proofs.«01_k».proof.Proof.Sane
public import proofs.«01_k».proof.Proof.RefOut
public import proofs.«01_k».proof.Proof.RefRegion
public import proofs.«01_k».proof.Proof.Gen.ReferenceIdeal.Read
public import proofs.«01_k».proof.Proof.Gen.Pre_sane
public import Idealize.ShloMosaic.Lib.Claim

@[expose] public section

set_option maxRecDepth 16384

noncomputable section

namespace Cert.Proof

open Idealize.ShloMosaic Idealize.ShloMosaic.TcCoe Idealize.SL.Sem

/-- The reference's attention output, as an array. -/
theorem ref_att {A : Args} (g : A.Sane) {q qs kc cb v vs u0 n0} (hq : q = A.q) (hqs : qs = A.qs) (hkc : kc = A.kc)
    (hcb : cb = A.cb) (hv : v = A.v) (hvs : vs = A.vs) (hu0 : u0 = A.u0) (hn0 : n0 = A.n0) :
    Cert.ReferenceIdeal.Read.val_main_v108 (F := Ideal) qs kc cb vs u0 n0 q v = attArr A := by
  subst hq hqs hkc hcb hv hvs hu0 hn0
  funext j
  idx_vars j
  exact Ref.out_final g j0 j1 j2

/-- The reference's sums, as an array. -/
theorem ref_sum {A : Args} (g : A.Sane) {kc v vs u0} (hkc : kc = A.kc) (hv : v = A.v) (hvs : vs = A.vs) (hu0 : u0 = A.u0) :
    Cert.ReferenceIdeal.Read.val_main_v31 (F := Ideal) kc vs u0 v = sumArr A := by
  subst hkc hv hvs hu0
  funext j
  idx_vars j
  exact Ref.sum_final g j0 j1 j2 j3

/-- The reference's counts, as an array. -/
theorem ref_cnt {A : Args} (g : A.Sane) {kc n0} (hkc : kc = A.kc) (hn0 : n0 = A.n0) :
    Cert.ReferenceIdeal.Read.val_main_v109 (F := Ideal) kc n0 = cntArr A := by
  subst hkc hn0
  funext j
  idx_vars j
  have e : j2 = 0 := Subsingleton.elim _ _
  subst e
  exact Ref.cnt_final g j0 j1 j3

/-- From memories that hold the same sane arguments the two programs leave the same three arrays. -/
theorem algebraic : Cert.algebraic_KernelIdeal_ReferenceIdeal_pre_sane := by
  intro m ρ m' ρ' hpre hagree
  have hs : ∀ c, (argsOf m c).Sane := fun c => sane_of (argsOf m c) (hpre c)
  refine ⟨fun c => attArr (argsOf m c), fun c => sumArr (argsOf m c), fun c => cntArr (argsOf m c), ?_, ?_⟩
  · refine (θ_run _ _ _).mono (fun r h c => ?_) (Cert.KernelIdeal.Value.run_blocks m ρ)
    exact ⟨(h c).1.trans (final9 (hs c)), (h c).2.1.trans (final10 (hs c)), (h c).2.2.1.trans (final11 (hs c)), (h c).2.2.2⟩
  · refine (θ_run _ _ _).mono (fun r h c => ?_) (Cert.ReferenceIdeal.Value.run m' ρ')
    obtain ⟨a0, a1, a2, a3, a4, a5, a6, a7⟩ := hagree c
    have e1 := (Cert.ReferenceIdeal.Value.exit_main_arg1 m' c).trans a1
    have e2 := (Cert.ReferenceIdeal.Value.exit_main_arg2 m' c).trans a2
    have e3 := (Cert.ReferenceIdeal.Value.exit_main_arg3 m' c).trans a3
    have e5 := (Cert.ReferenceIdeal.Value.exit_main_arg5 m' c).trans a5
    have e6 := (Cert.ReferenceIdeal.Value.exit_main_arg6 m' c).trans a6
    have e7 := (Cert.ReferenceIdeal.Value.exit_main_arg7 m' c).trans a7
    have e0 := ((Cert.ReferenceIdeal.Value.exit_main_v0_0 m' c).trans (Ref.decoded_q m' c)).trans a0
    have e4 := ((Cert.ReferenceIdeal.Value.exit_main_v0_1 m' c).trans (Ref.decoded_v m' c)).trans a4
    obtain ⟨r0, r1, r2, rest⟩ := h c
    exact ⟨(r0.trans (Cert.ReferenceIdeal.Read.val_main_v108_eq _)).trans (ref_att (hs c) e0 e1 e2 e3 e4 e5 e6 e7),
      (r1.trans (Cert.ReferenceIdeal.Read.val_main_v31_eq _)).trans (ref_sum (hs c) e2 e4 e5 e6),
      (r2.trans (Cert.ReferenceIdeal.Read.val_main_v109_eq _)).trans (ref_cnt (hs c) e2 e7), rest⟩

end Cert.Proof
-- ==== Proof.lean ====
/- The certificate's claims, put together: the programs' stated facts and frames come from the generated modules, the
   named constants from the rule that allows them, and the equality of the kernel's results with the reference's from
   `Proof/Same.lean`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_sane
public import proofs.«01_k».proof.Proof.Gen.KernelIdeal.Value
public import proofs.«01_k».proof.Proof.Gen.ReferenceIdeal.Run
public import proofs.«01_k».proof.Proof.Gen.ReferenceIdeal.Read
public import proofs.«01_k».proof.Proof.Same
public import Idealize.ShloMosaic.Adequacy
public import Idealize.ShloMosaic.Init

@[expose] public section

noncomputable section

namespace Cert.Proof

open Idealize.ShloMosaic Idealize.SL.Sem Cert.Kernel

/-- All the claims of the certificate together. -/
theorem claim : Cert.Claim := ⟨Cert.Kernel.Gen.facts, Cert.KernelIdeal.Gen.facts, Cert.ReferenceIdeal.Gen.facts, Cert.Pre_sane.Gen.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  ⟨IdealRules.named_const.statement Cert.KernelIdeal.κ "score_scale_log2e" .f32 0x3E0293EE#32 _ rfl,
   IdealRules.named_const.statement Cert.KernelIdeal.κ "log2e" .f32 0x3FB8AA3B#32 _ rfl,
   IdealRules.named_const.statement Cert.KernelIdeal.κ "neg_inf" .f32 0xFF61B1E6#32 _ rfl⟩,
  algebraic⟩

end Cert.Proof

end
